-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  bcast_S_S512x16 : S_.BroadcastsInDim S512x16 (![] : Fin 0 → Fin S512x16.rank)
  bcast_S_S1024x2 : S_.BroadcastsInDim S1024x2 (![] : Fin 0 → Fin S1024x2.rank)

variable [Facts]

def fn {F : FTy → Type} [FloatOps F] (main_arg0 : FVec F S1024x512 .bf16) (main_arg1 : FVec F S512x16 .bf16) (main_arg2 : IVec S1024x2 32) (main_arg3 : FVec F S4x512x1024 .bf16) : IVec S1024x512 1 × IVec S512x16 1 × IVec S1024x2 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_v4 : FVec F S512x16 .f32 := (extf .f32 · bitsLt_bf16_f32) main_arg1
  let main_v5 : FVec F S512x16 .f32 := Host.absf main_v4
  let main_cst_0 : FVec F S_ .f32 := constant S_ .f32 0x7F800000#32
  let main_v6 : FVec F S512x16 .f32 := broadcastInDim S512x16 ![] bcast_S_S512x16 main_cst_0
  let main_v7 : IVec S512x16 1 := cmpf .olt main_v5 main_v6
  let main_c : IVec S_ 32 := constantI S_ 32 0#32
  let main_v8 : IVec S1024x2 32 := broadcastInDim S1024x2 ![] bcast_S_S1024x2 main_c
  let main_v9 : IVec S1024x2 1 := cmpi .sge main_arg2 main_v8
  let main_c_1 : IVec S_ 32 := constantI S_ 32 16#32
  let main_v10 : IVec S1024x2 32 := broadcastInDim S1024x2 ![] bcast_S_S1024x2 main_c_1
  let main_v11 : IVec S1024x2 1 := cmpi .slt main_arg2 main_v10
  let main_v12 : IVec S1024x2 1 := andi main_v9 main_v11
  (main_v3, main_v7, main_v12)
-- ==== Pre_finite_and_in_range_ReferenceIdeal.lean ====
abbrev S1024x512 : Shape := ⟨2, ![1024, 512]⟩
abbrev S512x16 : Shape := ⟨2, ![512, 16]⟩
abbrev S1024x2 : Shape := ⟨2, ![1024, 2]⟩
abbrev S16x512x1024 : Shape := ⟨3, ![16, 512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  bcast_S_S512x16 : S_.BroadcastsInDim S512x16 (![] : Fin 0 → Fin S512x16.rank)
  bcast_S_S1024x2 : S_.BroadcastsInDim S1024x2 (![] : Fin 0 → Fin S1024x2.rank)

variable [Facts]

def fn {F : FTy → Type} [FloatOps F] (main_arg0 : FVec F S1024x512 .bf16) (main_arg1 : FVec F S512x16 .bf16) (main_arg2 : IVec S1024x2 32) (main_arg3 : FVec F S16x512x1024 .bf16) : IVec S1024x512 1 × IVec S512x16 1 × IVec S1024x2 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_v4 : FVec F S512x16 .f32 := (extf .f32 · bitsLt_bf16_f32) main_arg1
  let main_v5 : FVec F S512x16 .f32 := Host.absf main_v4
  let main_cst_0 : FVec F S_ .f32 := constant S_ .f32 0x7F800000#32
  let main_v6 : FVec F S512x16 .f32 := broadcastInDim S512x16 ![] bcast_S_S512x16 main_cst_0
  let main_v7 : IVec S512x16 1 := cmpf .olt main_v5 main_v6
  let main_c : IVec S_ 32 := constantI S_ 32 0#32
  let main_v8 : IVec S1024x2 32 := broadcastInDim S1024x2 ![] bcast_S_S1024x2 main_c
  let main_v9 : IVec S1024x2 1 := cmpi .sge main_arg2 main_v8
  let main_c_1 : IVec S_ 32 := constantI S_ 32 16#32
  let main_v10 : IVec S1024x2 32 := broadcastInDim S1024x2 ![] bcast_S_S1024x2 main_c_1
  let main_v11 : IVec S1024x2 1 := cmpi .slt main_arg2 main_v10
  let main_v12 : IVec S1024x2 1 := andi main_v9 main_v11
  (main_v3, main_v7, main_v12)
-- ==== Kernel.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S256x1024 : Shape := ⟨2, ![256, 1024]⟩
abbrev S1024x4 : Shape := ⟨2, ![1024, 4]⟩
abbrev S4x256x512 : Shape := ⟨3, ![4, 256, 512]⟩
abbrev S3 : Shape := ⟨1, ![3]⟩
abbrev S_ : Shape := ⟨0, ![]⟩
abbrev S1024x16 : Shape := ⟨2, ![1024, 16]⟩
abbrev S1024 : Shape := ⟨1, ![1024]⟩
abbrev S1024x1 : Shape := ⟨2, ![1024, 1]⟩
abbrev S256x512 : Shape := ⟨2, ![256, 512]⟩
abbrev S256x4 : Shape := ⟨2, ![256, 4]⟩
abbrev S256x1 : Shape := ⟨2, ![256, 1]⟩
abbrev S1x512x1024 : Shape := ⟨3, ![1, 512, 1024]⟩
abbrev S512x1024 : Shape := ⟨2, ![512, 1024]⟩
abbrev S1x256x512 : Shape := ⟨3, ![1, 256, 512]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x2, .i32⟩
  | .hbm, ⟨3, _⟩ => ⟨S4x512x1024, .bf16⟩
  | .hbm, ⟨4, _⟩ => ⟨S256x1024, .f32⟩
  | .local _ .vmem, ⟨0, _⟩ => ⟨S1024x512, .bf16⟩
  | .local _ .vmem, ⟨1, _⟩ => ⟨S512x16, .bf16⟩
  | .local _ .vmem, ⟨2, _⟩ => ⟨S1024x2, .i32⟩
  | .local _ .vmem, ⟨3, _⟩ => ⟨S4x512x1024, .bf16⟩
  | .local _ .vmem, ⟨4, _⟩ => ⟨S256x1024, .f32⟩
  | .local _ .vmem, ⟨5, _⟩ => ⟨S1024x4, .f32⟩
  | .local _ .vmem, ⟨6, _⟩ => ⟨S4x512x1024, .bf16⟩
  | .local _ .vmem, ⟨7, _⟩ => ⟨S4x256x512, .bf16⟩
  | .local _ .vmem, ⟨8, _⟩ => ⟨S4x256x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32 : BitVec 32 := 256#32
  let v86 : BitVec 32 := Scalar.muli v5 c256_i32
  let v87 : Index := Scalar.indexCast v86
  let c0_42 : Index := 0#32
  ![v87.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32 : BitVec 32 := 256#32
  let v86 : BitVec 32 := Scalar.muli v5 c256_i32
  let v90 : Index := Scalar.indexCast v86
  let c0_43 : Index := 0#32
  ![v90.toNat, 0]
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_65 : BitVec 32 := 1#32
  let v134 : BitVec 32 := Scalar.muli v7 c1_i32_65
  let v135 : BitVec 32 := Scalar.addi c0_i32_66 v134
  v135.toNat
def k0_off3 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_71 : BitVec 32 := 256#32
  let v144 : BitVec 32 := Scalar.muli v7 c256_i32_71
  let v145 : Index := Scalar.indexCast v144
  let c0_72 : Index := 0#32
  ![v145.toNat, 0]
def k0_off4 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_71 : BitVec 32 := 256#32
  let v144 : BitVec 32 := Scalar.muli v7 c256_i32_71
  let v148 : Index := Scalar.indexCast v144
  let c0_73 : Index := 0#32
  ![v148.toNat, 0]
def k0_dev4 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_98 : BitVec 32 := 1#32
  let v192 : BitVec 32 := Scalar.muli v5 c1_i32_98
  let v193 : BitVec 32 := Scalar.addi c0_i32_99 v192
  v193.toNat
def k0_dev5 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_146 : BitVec 32 := 1#32
  let v263 : BitVec 32 := Scalar.muli v7 c1_i32_146
  let v264 : BitVec 32 := Scalar.addi c0_i32_147 v263
  v264.toNat
def k0_dev6 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_172 : BitVec 32 := 1#32
  let v289 : BitVec 32 := Scalar.muli v5 c1_i32_172
  let v290 : BitVec 32 := Scalar.addi c0_i32_173 v289
  v290.toNat
def k0_dev7 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_198 : BitVec 32 := 1#32
  let v315 : BitVec 32 := Scalar.muli v7 c1_i32_198
  let v316 : BitVec 32 := Scalar.addi c0_i32_199 v315
  v316.toNat
def k0_dev8 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_224 : BitVec 32 := 1#32
  let v341 : BitVec 32 := Scalar.muli v5 c1_i32_224
  let v342 : BitVec 32 := Scalar.addi c0_i32_225 v341
  v342.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_230 : BitVec 32 := 256#32
  let v351 : BitVec 32 := Scalar.muli v2 c256_i32_230
  let v352 : Index := Scalar.indexCast v351
  let c0_231 : Index := 0#32
  ![v352.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_230 : BitVec 32 := 256#32
  let v351 : BitVec 32 := Scalar.muli v2 c256_i32_230
  let v355 : Index := Scalar.indexCast v351
  let c0_232 : Index := 0#32
  ![v355.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x2 : Shape := ⟨2, ![1024, 2]⟩
abbrev S16x512x1024 : Shape := ⟨3, ![16, 512, 1024]⟩
abbrev S1024x16 : Shape := ⟨2, ![1024, 16]⟩
abbrev S_ : Shape := ⟨0, ![]⟩
abbrev S1024 : Shape := ⟨1, ![1024]⟩
abbrev S1024x1 : Shape := ⟨2, ![1024, 1]⟩
abbrev S1024x512x1024 : Shape := ⟨3, ![1024, 512, 1024]⟩
abbrev S1024x1024 : Shape := ⟨2, ![1024, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x2, .i32⟩
  | .hbm, ⟨3, _⟩ => ⟨S16x512x1024, .bf16⟩
  | .hbm, ⟨4, _⟩ => ⟨S1024x512, .f32⟩
  | .hbm, ⟨5, _⟩ => ⟨S512x16, .f32⟩
  | .hbm, ⟨6, _⟩ => ⟨S16x512x1024, .f32⟩
  | .hbm, ⟨7, _⟩ => ⟨S1024x16, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x16, .f32⟩
  | .hbm, ⟨12, _⟩ => ⟨S1024x16, .f32⟩
  | .hbm, ⟨13, _⟩ => ⟨S1024x16, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x16, .f32⟩
  | .hbm, ⟨18, _⟩ => ⟨S1024x16, .f32⟩
  | .hbm, ⟨19, _⟩ => ⟨S1024, .i32⟩
  | .hbm, ⟨20, _⟩ => ⟨S1024x1, .i32⟩
  | .hbm, ⟨21, _⟩ => ⟨S1024, .i32⟩
  | .hbm, ⟨22, _⟩ => ⟨S1024x1, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S1024x1, .i32⟩
  | .hbm, ⟨40, _⟩ => ⟨S1024x2, .i32⟩
  | .hbm, ⟨41, _⟩ => ⟨S1024, .f32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S1024x1, .i32⟩
  | .hbm, ⟨57, _⟩ => ⟨S1024x1, .i32⟩
  | .hbm, ⟨58, _⟩ => ⟨S1024x2, .i32⟩
  | .hbm, ⟨59, _⟩ => ⟨S1024, .f32⟩
  | .hbm, ⟨60, _⟩ => ⟨S1024, .f32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S1024x512x1024, .f32⟩
  | .hbm, ⟨70, _⟩ => ⟨S1024x1024, .f32⟩
  | .hbm, ⟨71, _⟩ => ⟨S_, .i32⟩
  | .hbm, ⟨72, _⟩ => ⟨S1024, .i32⟩
  | .hbm, ⟨73, _⟩ => ⟨S1024, .i1⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S1024, .i32⟩
  | .hbm, ⟨78, _⟩ => ⟨S1024x1, .i32⟩
  | .hbm, ⟨79, _⟩ => ⟨S1024x512x1024, .f32⟩
  | .hbm, ⟨80, _⟩ => ⟨S1024x1024, .f32⟩
  | .hbm, ⟨81, _⟩ => ⟨S1024, .f32⟩
  | .hbm, ⟨82, _⟩ => ⟨S1024x1, .f32⟩
  | .hbm, ⟨83, _⟩ => ⟨S1024x1024, .f32⟩
  | .hbm, ⟨84, _⟩ => ⟨S1024x1024, .f32⟩
  | .hbm, ⟨85, _⟩ => ⟨S1024, .f32⟩
  | .hbm, ⟨86, _⟩ => ⟨S1024x1, .f32⟩
  | .hbm, ⟨87, _⟩ => ⟨S1024x1024, .f32⟩
  | .hbm, ⟨88, _⟩ => ⟨S1024x1024, .f32⟩
  | .hbm, ⟨89, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Cells.lean ====
/-
# The ring's cells, slots and contents

Names for what the kernel's four devices share: the ring of devices, the runtime's barrier semaphore, the twelve DMA
semaphores of the two circulations, the slots of the two landing buffers, and what each slot holds when.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

set_option backward.proofsInPublic true in
/-- The device after `c` on the ring. -/
def nxt (c : Dev nD) : Dev nD := ⟨(c.val + 1) % 4, Nat.mod_lt _ (by decide)⟩
set_option backward.proofsInPublic true in
/-- The device before `c` on the ring. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- One step along the ring, as a permutation of the devices. -/
def ring : Dev nD ≃ Dev nD := ⟨nxt, prv, prv_nxt, nxt_prv⟩

/-- Each device id the kernel computes is a neighbour. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)

/-! ## The semaphores -/

/-- The runtime's barrier semaphore. -/
abbrev barS : Sem sig := (SemArray.scalar (sig.barrier 0 rfl) : Sems sig S_).sem
/-- The twelve DMA semaphores: clockwise sends 0–2 and receives 3–5, counter-clockwise sends 6–8 and receives 9–11. -/
abbrev dsem (j : Fin 12) : DmaSem sig := ⟨5 + j.val, by have := j.isLt; show 5 + j.val < 17; omega⟩

abbrev barCell (c : Dev nD) : GSem nD τ sig := ((c : Thread nD τ), .reg barS)
abbrev dcell (j : Fin 12) (c : Dev nD) : GSem nD τ sig := ((c : Thread nD τ), .dma (dsem j))

/-- The launch's own semaphores, and all thirteen the protocol uses. -/
abbrev osem : Fin 12 → SemLoc sig := fun j => .dma (dsem j)
abbrev csem : Option (Fin 12) → SemLoc sig := fun | none => .reg barS | some j => .dma (dsem j)
abbrev kcell (ck : Dev nD × Option (Fin 12)) : GSem nD τ sig := ((ck.1 : Thread nD τ), csem ck.2)

theorem dsem_inj {i j : Fin 12} (h : dsem i = dsem j) : i = j := by
  have := congrArg Fin.val h; dsimp only [dsem] at this; exact Fin.ext (by omega)
theorem dcell_eq_iff {i j : Fin 12} {a b : Dev nD} : dcell i a = dcell j b ↔ i = j ∧ a = b :=
  ⟨fun h => ⟨dsem_inj (SemLoc.dma.inj (congrArg Prod.snd h)), Fin.ext (congrArg (fun g : GSem nD τ sig => g.1.1.val) h)⟩,
    fun h => by rw [h.1, h.2]⟩
theorem bar_eq_iff {a b : Dev nD} : barCell a = barCell b ↔ a = b :=
  ⟨fun h => Fin.ext (congrArg (fun g : GSem nD τ sig => g.1.1.val) h), fun h => h ▸ rfl⟩
theorem dcell_ne_bar (j : Fin 12) (a b : Dev nD) : dcell j a ≠ barCell b := fun h => by cases congrArg Prod.snd h
theorem bar_ne_dcell (j : Fin 12) (a b : Dev nD) : barCell b ≠ dcell j a := fun h => by cases congrArg Prod.snd h

/-! ## The buffers and the slots -/

abbrev xM : Memref sig .tc .vmem S1024x512 .bf16 := Memref.whole cc0_stg0_0
abbrev rwM : Memref sig .tc .vmem S512x16 .bf16 := Memref.whole cc0_stg1_0
abbrev ixM : Memref sig .tc .vmem S1024x2 .i32 := Memref.whole cc0_stg2_0
abbrev ewM : Memref sig .tc .vmem S4x512x1024 .bf16 := Memref.whole cc0_stg3_0
abbrev oM : Memref sig .tc .vmem S256x1024 .f32 := Memref.whole cc0_stg4_0
abbrev gM : Memref sig .tc .vmem S1024x4 .f32 := Memref.whole cc0_scratch0
abbrev wM : Memref sig .tc .vmem S4x512x1024 .bf16 := Memref.whole cc0_scratch1
abbrev cwM : Memref sig .tc .vmem S4x256x512 .bf16 := Memref.whole cc0_scratch2
abbrev ccM : Memref sig .tc .vmem S4x256x512 .bf16 := Memref.whole cc0_scratch3

/-- Slot `k` lies inside the landing buffer. -/
abbrev InB (k : ℕ) : Prop := ∀ a, (![k, 0, 0] : Fin 3 → ℕ) a + S1x256x512.size a ≤ S4x256x512.size a
/-- Slot `k` of a four-slot landing buffer. -/
abbrev rk (k : ℕ) (h : InB k) : Rect S4x256x512 :=
  Rect.unit (s := S4x256x512) ![k, 0, 0] S1x256x512.size h
/-- Slot `k` as a transfer names it. -/
abbrev sk (M : Memref sig .tc .vmem S4x256x512 .bf16) (k : ℕ) (h : InB k) :
    Memref sig .tc .vmem S256x512 .bf16 :=
  (M.slice (rk k h) (fun _ => rfl)).squeeze S256x512 squeezes_S1x256x512_S256x512

theorem sk_set (M : Memref sig .tc .vmem S4x256x512 .bf16) (k h) : (sk M k h).view.set = (M.access (rk k h)).set := by
  show (View.reshape _ _ _).set = _
  rw [View.set_reshape]

/-- The bytes one transfer counts. -/
abbrev N : ℕ := (sk cwM 1 inb_S4x256x512_S1x256x512_1_0_0).view.dmaCredit
theorem N_pos : 0 < N := View.dmaCredit_pos _ (by decide)

theorem cred_cw (k h) : (sk cwM k h).view.dmaCredit = N := rfl
theorem cred_cc (k h) : (sk ccM k h).view.dmaCredit = N := rfl

/-- Device `c` holds slot `k` of landing buffer `M`, its contents `X`. -/
def slot (M : Memref sig .tc .vmem S4x256x512 .bf16) (k : ℕ) (h : InB k) (c : Dev nD) (X : Vec F S1x256x512 .bf16) : sProp 𝕄 :=
  iprop(∃ f : Buf (Elt F) (M.view.loc (c : Thread nD τ)), ⌜M.view.readAt (Elt F) (rk k h).toLoadRect f = X⌝
    ∗ (M.view.loc (c : Thread nD τ) ↦[(M.access (rk k h)).set]{fullShare} f))
/-- The same, the contents unsaid. -/
def slotAny (M : Memref sig .tc .vmem S4x256x512 .bf16) (k : ℕ) (h : InB k) (c : Dev nD) : sProp 𝕄 :=
  iprop(∃ f : Buf (Elt F) (M.view.loc (c : Thread nD τ)), (M.view.loc (c : Thread nD τ) ↦[(M.access (rk k h)).set]{fullShare} f))

theorem slot_forget (M k h) (c : Dev nD) (X : Vec F S1x256x512 .bf16) : slot M k h c X ⊢ (slotAny M k h c : sProp 𝕄) := by
  unfold slot slotAny
  iintro ⟨%f, -, H⟩; iexists f; iexact H
theorem slotAny_elim (M k h) (c : Dev nD) : (slotAny M k h c : sProp 𝕄) ⊢ iprop(∃ X : Vec F S1x256x512 .bf16, slot M k h c X) := by
  unfold slot slotAny
  iintro ⟨%f, H⟩; iexists _; iexists f
  isplitr
  · ipureintro; rfl
  iexact H

instance slot_storable (M k h) (c : Dev nD) (X : Vec F S1x256x512 .bf16) : BI.Storable (upEmb : UEmb _ 𝕄) (slot (F := F) M k h c X) := by
  unfold slot; infer_instance
instance slotAny_storable (M k h) (c : Dev nD) : BI.Storable (upEmb : UEmb _ 𝕄) (slotAny (F := F) M k h c) := by
  unfold slotAny; infer_instance

/-! ## What the devices compute -/

section Contents
variable (c : Dev nD)

/-- The argument blocks device `c` works on: the tokens, the router's weights, the routing indices, its four experts. -/
def xA : Vec F S1024x512 .bf16 := (win0_0.blk (0 : Fin 1)).view.read (Elt F) (m ((c : Thread nD τ).loc main_arg0))
def rwA : Vec F S512x16 .bf16 := (win0_1.blk (0 : Fin 1)).view.read (Elt F) (m ((c : Thread nD τ).loc main_arg1))
def ixA : Vec F S1024x2 .i32 := (win0_2.blk (0 : Fin 1)).view.read (Elt F) (m ((c : Thread nD τ).loc main_arg2))
def ewA : Vec F S4x512x1024 .bf16 := (win0_3.blk (0 : Fin 1)).view.read (Elt F) (m ((c : Thread nD τ).loc main_arg3))

/-- Device `c`'s number along the mesh axis, as the kernel computes it. -/
abbrev axw : BitVec 32 := Scalar.remsi (Scalar.divsi (Dev.word c) 1#32) 4#32

abbrev probs : FVec F S1024x16 .f32 := k0_pay1 (xA m c) (rwA m c)
abbrev iota16 : IVec S1024x16 32 := iota .tc S1024x16 32 [1] iota_S1024x16_d1_w32
abbrev i0 : IVec S1024x2 32 := k0_pay2 (F := F) (ixA m c)
abbrev i1 : IVec S1024x16 32 := k0_pay3 (F := F) (ixA m c)
abbrev den : FVec F S1024x1 .f32 := k0_pay5 (probs m c) (i0 m c) iota16 (i1 m c)
abbrev g0 : FVec F S1024x1 .f32 := k0_pay6 (axw c) (probs m c) (i0 m c) iota16 (i1 m c)
abbrev g1 : FVec F S1024x1 .f32 := k0_pay7 (axw c) (probs m c) (i0 m c) iota16 (i1 m c)
abbrev g2 : FVec F S1024x1 .f32 := k0_pay8 (axw c) (probs m c) (i0 m c) iota16 (i1 m c)
abbrev g3 : FVec F S1024x16 .f32 := k0_pay9 (axw c) (probs m c) (i0 m c) iota16 (i1 m c)

/-- The weight device `c`'s experts get from each token. -/
def gates : Vec F S1024x4 .f32 := k0_pay10 (den m c) (g0 m c) (g1 m c) (g2 m c) (g3 m c)
/-- The experts' matrices as the products read them. -/
def wts : Vec F S4x512x1024 .bf16 := k0_pay11 (ewA m c)

def w0 : Vec F S1x512x1024 .bf16 := wM.view.readAt (Elt F) (Rect.unit (s := S4x512x1024) ![0, 0, 0] S1x512x1024.size inb_S4x512x1024_S1x512x1024_0_0_0).toLoadRect (wts m c)
def w1 : Vec F S1x512x1024 .bf16 := wM.view.readAt (Elt F) (Rect.unit (s := S4x512x1024) ![1, 0, 0] S1x512x1024.size inb_S4x512x1024_S1x512x1024_1_0_0).toLoadRect (wts m c)
def w2 : Vec F S1x512x1024 .bf16 := wM.view.readAt (Elt F) (Rect.unit (s := S4x512x1024) ![2, 0, 0] S1x512x1024.size inb_S4x512x1024_S1x512x1024_2_0_0).toLoadRect (wts m c)
def w3 : Vec F S1x512x1024 .bf16 := wM.view.readAt (Elt F) (Rect.unit (s := S4x512x1024) ![3, 0, 0] S1x512x1024.size inb_S4x512x1024_S1x512x1024_3_0_0).toLoadRect (wts m c)

def xL : Vec F S256x512 .bf16 := xM.view.readAt (Elt F) (Rect.unit (s := S1024x512) (k0_off1 c) S256x512.size (k0_off1_inb c)).toLoadRect (xA m c)
def gL : Vec F S256x4 .f32 := gM.view.readAt (Elt F) (Rect.unit (s := S1024x4) (k0_off2 c) S256x4.size (k0_off2_inb c)).toLoadRect (gates m c)
def xR : Vec F S256x512 .bf16 := xM.view.readAt (Elt F) (Rect.unit (s := S1024x512) (k0_off3 c 1#32) S256x512.size (k0_off3_inb c 0)).toLoadRect (xA m c)
def gR : Vec F S256x4 .f32 := gM.view.readAt (Elt F) (Rect.unit (s := S1024x4) (k0_off4 c 1#32) S256x4.size (k0_off4_inb c 0)).toLoadRect (gates m c)
def xO : Vec F S256x512 .bf16 := xM.view.readAt (Elt F) (Rect.unit (s := S1024x512) (k0_off3 c 2#32) S256x512.size (k0_off3_inb c 1)).toLoadRect (xA m c)
def gO : Vec F S256x4 .f32 := gM.view.readAt (Elt F) (Rect.unit (s := S1024x4) (k0_off4 c 2#32) S256x4.size (k0_off4_inb c 1)).toLoadRect (gates m c)
def xS : Vec F S256x512 .bf16 := xM.view.readAt (Elt F) (Rect.unit (s := S1024x512) (k0_off5 c) S256x512.size (k0_off5_inb c)).toLoadRect (xA m c)
def gS : Vec F S256x4 .f32 := gM.view.readAt (Elt F) (Rect.unit (s := S1024x4) (k0_off6 c) S256x4.size (k0_off6_inb c)).toLoadRect (gates m c)

/-- Device `c`'s share of the four row blocks: of the block before it on the ring, … -/
def partL : FVec F S256x1024 .f32 := k0_pay15 (k0_pay12 (xL m c)) (gL m c) (k0_pay13 (xL m c) (gL m c) (w0 m c) (w1 m c)) (k0_pay14 (gL m c)) (w2 m c) (w3 m c)
/-- … of the block after it, … -/
def partR : FVec F S256x1024 .f32 := k0_pay17 (xR m c) (gR m c) (w0 m c) (w1 m c) (w2 m c) (w3 m c)
/-- … of the block across, … -/
def partO : FVec F S256x1024 .f32 := k0_pay23 (k0_pay20 (xO m c)) (gO m c) (k0_pay21 (xO m c) (gO m c) (w0 m c)) (k0_pay22 (xO m c) (gO m c)) (w1 m c) (w2 m c) (w3 m c)
/-- (its left half) -/
def halfO : FVec F S256x512 .f32 := k0_pay25 (k0_pay20 (xO m c)) (gO m c) (k0_pay21 (xO m c) (gO m c) (w0 m c)) (k0_pay22 (xO m c) (gO m c)) (w1 m c) (w2 m c) (w3 m c)
/-- … and of its own block. -/
def partS : FVec F S256x1024 .f32 := k0_pay34 (k0_pay31 (xS m c)) (gS m c) (k0_pay32 (xS m c) (gS m c) (w0 m c) (w1 m c)) (k0_pay33 (xS m c) (gS m c)) (w2 m c) (w3 m c)

/-- What device `c` sends clockwise in its three steps: the left half columns of the block two on, summed up so far. -/
def cw0 : Vec F S1x256x512 .bf16 := k0_pay16 (k0_pay12 (xL m c)) (gL m c) (k0_pay13 (xL m c) (gL m c) (w0 m c) (w1 m c)) (k0_pay14 (gL m c)) (w2 m c) (w3 m c)
def cw1 : Vec F S1x256x512 .bf16 := k0_pay26 (k0_pay24 (cw0 m (prv c))) (halfO m c)
def cw2 : Vec F S1x256x512 .bf16 := k0_pay29 (partR m c) (cw1 m (prv c))
/-- What it sends counter-clockwise: the right half columns. -/
def cc0 : Vec F S1x256x512 .bf16 := k0_pay19 (k0_pay18 (xR m c) (gR m c) (w0 m c) (w1 m c) (w2 m c) (w3 m c))
def cc1 : Vec F S1x256x512 .bf16 := k0_pay28 (k0_pay27 (partO m c) (cc0 m (nxt c)))
def cc2 : Vec F S1x256x512 .bf16 := k0_pay30 (partL m c) (cc1 m (nxt c))

/-- The two halves of the result's block on device `c`. -/
def outL : Vec F S256x512 .f32 := k0_pay35 (k0_pay31 (xS m c)) (gS m c) (k0_pay32 (xS m c) (gS m c) (w0 m c) (w1 m c)) (k0_pay33 (xS m c) (gS m c)) (w2 m c) (w3 m c) (cw2 m (prv c))
def outR : Vec F S256x512 .f32 := k0_pay36 (partS m c) (cc2 m (nxt c))

end Contents

end Cert.MoeRing

end
-- ==== Proof.Sched.lean ====
/-
# The schedule of the exchange

Which device hands what to which at each semaphore, and in what order the devices wait.
-/
module

public import proofs.«01_k».proof.Proof.Cells

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The payloads -/

/-- What the device after `c` hands over with its first barrier signal: the slots of its clockwise landing buffer that
    `c` will fill. -/
def barPayT (c : Dev nD) : sProp 𝕄 :=
  iprop(slotAny cwM 1 inb_S4x256x512_S1x256x512_1_0_0 (nxt c) ∗ slotAny cwM 2 inb_S4x256x512_S1x256x512_2_0_0 (nxt c)
    ∗ slotAny cwM 3 inb_S4x256x512_S1x256x512_3_0_0 (nxt c))
/-- What the device before `c` hands over with its second barrier signal: the slots of its counter-clockwise landing
    buffer that `c` will fill. -/
def barPayF (c : Dev nD) : sProp 𝕄 :=
  iprop(slotAny ccM 1 inb_S4x256x512_S1x256x512_1_0_0 (prv c) ∗ slotAny ccM 2 inb_S4x256x512_S1x256x512_2_0_0 (prv c)
    ∗ slotAny ccM 3 inb_S4x256x512_S1x256x512_3_0_0 (prv c))

/-- What the completion of a transfer hands over: at a send semaphore the slot sent from, at a receive semaphore the
    slot filled with the neighbour's block. -/
def dpay (j : Fin 12) (c : Dev nD) : sProp 𝕄 :=
  match j with
  | 0 => slot cwM 0 inb_S4x256x512_S1x256x512_0_0_0 c (cw0 m c)
  | 1 => slot cwM 1 inb_S4x256x512_S1x256x512_1_0_0 c (cw1 m c)
  | 2 => slot cwM 2 inb_S4x256x512_S1x256x512_2_0_0 c (cw2 m c)
  | 3 => slot cwM 1 inb_S4x256x512_S1x256x512_1_0_0 c (cw0 m (prv c))
  | 4 => slot cwM 2 inb_S4x256x512_S1x256x512_2_0_0 c (cw1 m (prv c))
  | 5 => slot cwM 3 inb_S4x256x512_S1x256x512_3_0_0 c (cw2 m (prv c))
  | 6 => slot ccM 0 inb_S4x256x512_S1x256x512_0_0_0 c (cc0 m c)
  | 7 => slot ccM 1 inb_S4x256x512_S1x256x512_1_0_0 c (cc1 m c)
  | 8 => slot ccM 2 inb_S4x256x512_S1x256x512_2_0_0 c (cc2 m c)
  | 9 => slot ccM 1 inb_S4x256x512_S1x256x512_1_0_0 c (cc0 m (nxt c))
  | 10 => slot ccM 2 inb_S4x256x512_S1x256x512_2_0_0 c (cc1 m (nxt c))
  | 11 => slot ccM 3 inb_S4x256x512_S1x256x512_3_0_0 c (cc2 m (nxt c))

instance barPayT_storable (c : Dev nD) : BI.Storable (upEmb : UEmb _ 𝕄) (barPayT (F := F) c) := by unfold barPayT; infer_instance
instance barPayF_storable (c : Dev nD) : BI.Storable (upEmb : UEmb _ 𝕄) (barPayF (F := F) c) := by unfold barPayF; infer_instance
instance dpay_storable (j : Fin 12) (c : Dev nD) : BI.Storable (upEmb : UEmb _ 𝕄) (dpay (F := F) m j c) := by
  unfold dpay; split <;> infer_instance

/-! ## The schedule -/

/-- One round: a barrier cell takes one unit from each neighbour, a DMA cell one transfer's bytes. -/
def sched : Rounds.Schedule (GSem nD τ sig) Bool 𝕄 where
  duties g r :=
    if r = 0 ∧ g.1.2 = .tc then (match g.2 with | .reg s => if s = barS then Finset.univ else ∅ | .dma q => if 5 ≤ q.val then {false} else ∅) else ∅
  unitless _ := False
  amount g _ _ := match g.2 with | .reg _ => 1 | .dma _ => N
  payload g _ d := match g.2 with
    | .reg _ => if d then barPayT g.1.1 else barPayF g.1.1
    | .dma q => if h : 5 ≤ q.val then dpay m ⟨q.val - 5, by have := q.isLt; change q.val < 17 at this; omega⟩ g.1.1 else iprop(emp)
  amount_pos g _ _ _ := by
    split
    · exact Nat.one_pos
    · exact N_pos

instance sched_payload_storable (g : GSem nD τ sig) (r : ℕ) (d : Bool) :
    BI.Storable (upEmb : UEmb _ 𝕄) ((sched (F := F) m).payload g r d) := by
  dsimp only [sched]
  (repeat' split) <;> infer_instance

section
variable (c : Dev nD) (j : Fin 12)

theorem duties_bar : (sched (F := F) m).duties (barCell c) 0 = Finset.univ := by
  dsimp only [sched]; rw [if_pos ⟨rfl, rfl⟩, if_pos rfl]
theorem duties_dma : (sched (F := F) m).duties (dcell j c) 0 = {false} := by
  dsimp only [sched]; rw [if_pos ⟨rfl, rfl⟩, if_pos (Nat.le_add_right _ _)]
theorem duties_later (g : GSem nD τ sig) : ∀ r, 1 ≤ r → (sched (F := F) m).duties g r = ∅ :=
  fun r hr => by dsimp only [sched]; rw [if_neg fun h => by omega]
theorem amount_bar (d : Bool) : (sched (F := F) m).amount (barCell c) 0 d = 1 := rfl
theorem amount_dma (d : Bool) : (sched (F := F) m).amount (dcell j c) 0 d = N := rfl
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (sched (F := F) m).expect (dcell j c) 0 = N := by
  unfold Schedule.expect Schedule.amountOf; rw [duties_dma, Finset.sum_singleton, amount_dma]
theorem payload_bar_true : (sched (F := F) m).payload (barCell c) 0 true = barPayT c := by
  dsimp only [sched]; rw [if_pos rfl]
theorem payload_bar_false : (sched (F := F) m).payload (barCell c) 0 false = barPayF c := by
  dsimp only [sched]; exact if_neg Bool.false_ne_true
theorem payload_dma (d : Bool) : (sched (F := F) m).payload (dcell j c) 0 d = dpay m j c := by
  dsimp only [sched]; rw [dif_pos (Nat.le_add_right _ _)]
  congr 1; exact Fin.ext (Nat.add_sub_cancel_left _ _)
theorem rest_bar : bigSep ((sched (F := F) m).duties (barCell c) 0 \ ∅) (fun d => (sched (F := F) m).payload (barCell c) 0 d)
    = iprop(barPayF c ∗ barPayT c) := by
  rw [Finset.sdiff_empty, duties_bar, bigSep_univ_eq_bigSepL [false, true] (by decide) (by decide), bigSepL_cons_cons, bigSepL_singleton,
    payload_bar_false, payload_bar_true]
  rfl
theorem rest_dma : bigSep ((sched (F := F) m).duties (dcell j c) 0 \ ∅) (fun d => (sched (F := F) m).payload (dcell j c) 0 d) = dpay m j c := by
  rw [Finset.sdiff_empty, duties_dma, bigSep_singleton, payload_dma]
end

/-! ## What each device owes, and the levels -/

/-- What device `c` owes before its k-th payment, the last payment first: the six transfers and the two signals. -/
def P6 (c : Dev nD) : CellTallies nD τ sig Unit := 0 + tallyAt (dcell 11 (prv c)) () N
def P5 (c : Dev nD) : CellTallies nD τ sig Unit := P6 c + tallyAt (dcell 5 (nxt c)) () N
def P4 (c : Dev nD) : CellTallies nD τ sig Unit := P5 c + tallyAt (dcell 10 (prv c)) () N
def P3 (c : Dev nD) : CellTallies nD τ sig Unit := P4 c + tallyAt (dcell 4 (nxt c)) () N
def P2 (c : Dev nD) : CellTallies nD τ sig Unit := P3 c + tallyAt (dcell 9 (prv c)) () N
def P1 (c : Dev nD) : CellTallies nD τ sig Unit := P2 c + tallyAt (dcell 3 (nxt c)) () N
def Q1 (c : Dev nD) : CellTallies nD τ sig Unit := P1 c + tallyAt (barCell (nxt c)) () 1
def Q0 (c : Dev nD) : CellTallies nD τ sig Unit := Q1 c + tallyAt (barCell (prv c)) () 1

/-- Barrier waits first, then the receives step by step; every other wait owes nothing. -/
def lvS : SemLoc sig → ℕ
  | .reg _ => 1
  | .dma q => if q.val = 8 ∨ q.val = 14 then 2 else if q.val = 9 ∨ q.val = 15 then 3 else if q.val = 10 ∨ q.val = 16 then 4 else 0
def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`, on a tensor core. -/
def Above (n : ℕ) (O : CellTallies nD τ sig Unit) : Prop := ∀ g u, 0 < O g u → g.1.2 = .tc ∧ n < lvS g.2

theorem above_zero (n : ℕ) : Above n 0 := fun g u h => absurd h (Nat.lt_irrefl 0)
theorem above_add {n : ℕ} {O : CellTallies nD τ sig Unit} {g : GSem nD τ sig} {k : ℕ} (hO : Above n O) (ht : g.1.2 = .tc)
    (hg : n < lvS g.2) : Above n (O + tallyAt g () k) := fun g' u h => by
  rw [Pi.add_apply, Finsupp.add_apply, tallyAt_apply] at h
  by_cases e : g' = g ∧ u = ()
  · rw [e.1]; exact ⟨ht, hg⟩
  · rw [if_neg e, Nat.add_zero] at h; exact hO g' u h

theorem above_P6 (c : Dev nD) {n : ℕ} (h : n < 4) : Above n (P6 c) := above_add (above_zero n) rfl h
theorem above_P5 (c : Dev nD) {n : ℕ} (h : n < 4) : Above n (P5 c) := above_add (above_P6 c h) rfl h
theorem above_P4 (c : Dev nD) {n : ℕ} (h : n < 3) : Above n (P4 c) := above_add (above_P5 c (by omega)) rfl h
theorem above_P3 (c : Dev nD) {n : ℕ} (h : n < 3) : Above n (P3 c) := above_add (above_P4 c h) rfl h
theorem above_P2 (c : Dev nD) {n : ℕ} (h : n < 2) : Above n (P2 c) := above_add (above_P3 c (by omega)) rfl h
theorem above_P1 (c : Dev nD) {n : ℕ} (h : n < 2) : Above n (P1 c) := above_add (above_P2 c h) rfl h
theorem above_Q0 (c : Dev nD) : Above 0 (Q0 c) :=
  above_add (above_add (above_P1 c (by decide)) rfl Nat.one_pos) rfl Nat.one_pos

/-- A wait at level `n` is allowed while everything owed lies above `n`. -/
theorem mayWait (c : Dev nD) (sm : SemLoc sig) {O : CellTallies nD τ sig Unit} (h : Above (lvS sm) O) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

end Cert.MoeRing

end
-- ==== Proof.Steps.lean ====
/-
# One step of the kernel at a time

The rules the walk through the kernel uses: loading and storing a slot, sending a slot to a neighbour, waiting for a
transfer, and waiting at the barrier.
-/
module

public import proofs.«01_k».proof.Proof.Sched
public import Idealize.ShloMosaic.Lib.ViewIndex

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a stretch of the kernel on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W, owes (c : Thread nD τ) O W)

/-- A finished stretch hands over its result. -/
theorem WP_ret {c : Dev nD} {α : Type} {a : α} {Q : α → sProp 𝕄} : Q a ⊢ WP c (.ret a) Q := by
  unfold WP; rw [wp_ret]
  iintro H; imodintro; iexact H

/-! ## The records every device reads -/

/-- Every cell's invariant, at the names `K`, and that every cell is at round 0 or later. -/
def records (K : Dev nD × Option (Fin 12) → ℕ) : sProp 𝕄 :=
  iprop((bigSep Finset.univ fun ck : Dev nD × Option (Fin 12) => cellInv ER (sched m) (K ck) (kcell ck))
    ∗ bigSep Finset.univ fun ck : Dev nD × Option (Fin 12) => reached ER (kcell ck) 0)

instance records_persistent (K : Dev nD × Option (Fin 12) → ℕ) : BI.Persistent (records m K) := by unfold records; infer_instance

variable (K : Dev nD × Option (Fin 12) → ℕ)

theorem inv_bar (c : Dev nD) : records m K ⊢ cellInv ER (sched m) (K (c, none)) (barCell c) :=
  sep_elim_left.trans (bigSep_elim (Finset.mem_univ (c, none)))
theorem inv_dma (j : Fin 12) (c : Dev nD) : records m K ⊢ cellInv ER (sched m) (K (c, some j)) (dcell j c) :=
  sep_elim_left.trans (bigSep_elim (Finset.mem_univ (c, some j)))
theorem reached_bar (c : Dev nD) : records m K ⊢ reached ER (barCell c) 0 :=
  sep_elim_right.trans (bigSep_elim (Finset.mem_univ (c, none)))
theorem reached_dma (j : Fin 12) (c : Dev nD) : records m K ⊢ reached ER (dcell j c) 0 :=
  sep_elim_right.trans (bigSep_elim (Finset.mem_univ (c, some j)))

/-! ## Slots -/

section Slots
variable {c : Dev nD} {α : Type} {M : Memref sig .tc .vmem S4x256x512 .bf16} {k k' : ℕ} {h : InB k} {h' : InB k'}
  {X : Vec F S1x256x512 .bf16}

/-- Loading a slot reads what it holds. -/
theorem load_slot {hl : M.view.LoadsAt (rk k h).toLoadRect} {kont : Vec F S1x256x512 .bf16 → Prog (TpuEff nD τ sig (Elt F) Λ₀ .tc) α} {Q : α → sProp 𝕄} :
    slot M k h c X ⊢ iprop((slot M k h c X -∗ WP c (kont X) Q) -∗ WP c (.op (.load M (rk k h).toLoadRect hl) kont) Q) := by
  unfold slot WP
  iintro ⟨%f, %hf, H⟩ Hk
  iapply (wp_load 𝒱₀ (c : Thread nD τ) none Set.univ (m := M) (by rw [View.set_slice]; exact Finset.Subset.refl _)) $$ H
  iintro H
  rw [hf]
  iapply Hk
  iexists f
  isplitr
  · ipureintro; exact hf
  iexact H

/-- Storing a slot makes it hold what is stored. -/
theorem store_slot {w : Vec F S1x256x512 .bf16} {hx : (M.access (rk k h)).Stores Finset.univ} {hm} {kont : PUnit → Prog (TpuEff nD τ sig (Elt F) Λ₀ .tc) α} {Q : α → sProp 𝕄} :
    slot M k h c X ⊢ iprop((slot M k h c w -∗ WP c (kont ⟨⟩) Q) -∗ WP c (.op (.store M (rk k h) w Finset.univ hx hm) kont) Q) := by
  unfold slot WP
  iintro ⟨%f, %hf, H⟩ Hk
  iapply (wp_store 𝒱₀ (c : Thread nD τ) none Set.univ (m := M) (r := rk k h) (Mk := Finset.univ) (S := (M.access (rk k h)).set) (f := f) (Finset.Subset.refl _)) $$ H
  iintro H
  iapply Hk
  iexists _
  isplitr; swap
  · iexact H
  ipureintro
  funext x
  exact View.read_write_of_mem (v := M.access (rk k h)) f w (Finset.mem_univ x)

theorem landed_eq (fd : (M.view.ref).ty.Contents (Elt F)) (fs : (M.view.ref).ty.Contents (Elt F)) :
    M.view.readAt (Elt F) (rk k' h').toLoadRect ((sk M k' h').view.write (Elt F) fd ((sk M k h).view.read (Elt F) fs) Finset.univ)
      = M.view.readAt (Elt F) (rk k h).toLoadRect fs := by
  funext x
  have hq : S256x512.numel = S1x256x512.numel := by decide
  obtain ⟨y, rfl⟩ := (Shape.reshapeEquiv hq).surjective x
  exact (View.read_write_reshape (v := M.access (rk k' h')) (s' := S256x512) hq fd _ y).trans rfl

/-- Sending a slot to a neighbour's slot: the sender keeps a receipt, and no longer owes the transfer. -/
theorem send_slot (js jr : Fin 12) {n n' : Dev nD} (hn : n' = n) (hc : (sk M k' h').view.dmaCredit = N)
    (h₁ : (slot M k h c X : sProp 𝕄) ⊢ dpay m js c) (h₂ : (slot M k' h' n X : sProp 𝕄) ⊢ dpay m jr n)
    (hr : τ.routes (c : Thread nD τ) (n : Thread nD τ) = true)
    {O₀ O : CellTallies nD τ sig Unit} (hO : O₀ = O + tallyAt (dcell jr n) () N)
    {hsc : (sk M k' h' : Memref sig (Dev.tc n' : Thread nD τ).2.kind .vmem S256x512 .bf16).view.ref.isScScratch = false}
    {hsrc : (sk M k h).view.WordExact} {hdst : (sk M k' h').view.WordExact}
    {hsem : DmaTarget.Typed .vmem (.dma (dsem jr)) (.remote (Dev.tc n' : Thread nD τ) (sk M k' h') (.dma (dsem js)) hsc)}
    {kont : PUnit → Prog (TpuEff nD τ sig (Elt F) Λ₀ .tc) α} {Q : α → sProp 𝕄} :
    iprop(records m K ∗ slot M k h c X ∗ slotAny M k' h' n ∗ owing c O₀ ∗ dutyTok ER (dcell js c) 0 false ∗ dutyTok ER (dcell jr n) 0 false)
      ⊢ iprop(((cred (tallyAt (dcell js c) () N) ∗ owing c O) -∗ WP c (kont ⟨⟩) Q)
          -∗ WP c (.op (.enqueueDma (sk M k h) (.remote (Dev.tc n' : Thread nD τ) (sk M k' h') (.dma (dsem js)) hsc) (.dma (dsem jr)) hsrc hdst hsem) kont) Q) := by
  subst hn
  unfold slot slotAny owing WP at *
  iintro ⟨#HR, ⟨%fs, %hfs, Hs⟩, ⟨%fd, Hd⟩, ⟨%W, HO⟩, Hts, Htr⟩ Hk
  iapply (Rounds.wp_send_pointsTo 𝒱₀ ER (sched m) (c : Thread nD τ) none (c' := (n' : Thread nD τ)) (κ₁ := K (c, some js)) (κ₂ := K (n', some jr))
    (r₁ := 0) (r₂ := 0) (d₁ := false) (d₂ := false) (src := sk M k h) (dst := sk M k' h') (fs := fs) (fd := fd) (q := fullShare)
    (by rw [duties_dma]; exact Finset.mem_singleton_self _) (by rw [duties_dma]; exact Finset.mem_singleton_self _)
    () () N (show (sk M k' h').view.amount (.dma (dsem jr)) = N from hc) (amount_dma m c js false) (amount_dma m n' jr false) O hO (W := W)
    (by
      rw [payload_dma, sk_set]; refine BIBase.Entails.trans ?_ h₁
      iintro H; iexists fs
      isplitr
      · ipureintro; exact hfs
      iexact H)
    (by
      rw [payload_dma, sk_set]; refine BIBase.Entails.trans ?_ h₂
      iintro H; iexists _
      isplitr; swap
      · iexact H
      ipureintro; exact (landed_eq (M := M) (k := k) (h := h) (k' := k') (h' := h') fd fs).trans hfs) hr) $$ [Hs Hd HO Hts Htr]
  · isplitr; · iapply (inv_dma m K js c); iexact HR
    isplitr; · iapply (inv_dma m K jr n'); iexact HR
    isplitl [Hs]; · rw [sk_set]; iexact Hs
    isplitl [Hd]; · rw [sk_set]; iexact Hd
    isplitl [HO]; · iexact HO
    isplitl [Hts]; · iexact Hts
    isplitr; · iapply (reached_dma m K js c); iexact HR
    isplitl [Htr]; · iexact Htr
    iapply (reached_dma m K jr n'); iexact HR
  iintro ⟨Hc, HO⟩
  iapply Hk
  isplitl [Hc]; · iexact Hc
  iexists W; iexact HO

end Slots

/-! ## Waits -/

section Waits
variable {c : Dev nD} {α : Type}

/-- Waiting for a transfer hands over what its completion carries; the semaphore is done with. -/
theorem wait_dma (j : Fin 12) {O : CellTallies nD τ sig Unit} (hO : Above (lvS (.dma (dsem j))) O)
    {src dst : Memref sig .tc .vmem S256x512 .bf16} {hsrc : src.view.WordExact} {hdst : dst.view.WordExact} (hc : dst.view.dmaCredit = N)
    {kont : PUnit → Prog (TpuEff nD τ sig (Elt F) Λ₀ .tc) α} {Q : α → sProp 𝕄} :
    iprop(records m K ∗ cred (tallyAt (dcell j c) () N) ∗ owing c O ∗ levAts L lv ∗ atPos ER (dcell j c) 0 ∅ 0)
      ⊢ iprop(((owing c O ∗ semVal (dcell j c) 0 ∗ dpay m j c) -∗ WP c (kont ⟨⟩) Q)
          -∗ WP c (.op (.waitDma2 (dsem j) src dst hsrc hdst) kont) Q) := by
  unfold owing WP
  iintro ⟨#HR, Hc, ⟨%W, HO⟩, #Hlev, Hat⟩ Hk
  iapply (Rounds.wp_wait_rest_token 𝒱₀ ER (sched m) (c : Thread nD τ) none (κ := K (c, some j))
      (wpE_waitDma2_eq 𝒱₀ (c : Thread nD τ) none Set.univ) (Set.mem_univ _) () (O := O) (W := W) (R := 0) (m := 0) (T := ∅)
      (by rw [Nat.zero_add, expect_dma, hc])) $$ [Hc HO Hat]
  · isplitr; · iapply (inv_dma m K j c); iexact HR
    isplitl [Hc]; · rw [hc]; iexact Hc
    isplitl [HO]; · iexact HO
    isplitr; · iapply (mayWait c (.dma (dsem j)) hO); iexact Hlev
    iexact Hat
  iintro ⟨HO, Hat, -, Hpay⟩
  ihave Hp := (Entails.of_eq (rest_dma m c j)) $$ Hpay
  imod (Rounds.cell_close ER (sched m) (Set.mem_univ (K (c, some j))) (fun h => h) (R := 0 + 1) (duties_later m (dcell j c))) $$ [Hat] with Hz
  · isplitr; · iapply (inv_dma m K j c); iexact HR
    iexact Hat
  iapply Hk
  isplitl [HO]; · iexists _; iexact HO
  isplitl [Hz]; · iexact Hz
  iexact Hp

/-- Waiting for both neighbours at the barrier hands over the slots this device will fill. -/
theorem wait_bar {O : CellTallies nD τ sig Unit} (hO : Above 1 O) {x : ℤ} (hx : x = 2)
    {kont : PUnit → Prog (TpuEff nD τ sig (Elt F) Λ₀ .tc) α} {Q : α → sProp 𝕄} :
    iprop(records m K ∗ cred (tallyAt (barCell c) () 2) ∗ owing c O ∗ levAts L lv ∗ atPos ER (barCell c) 0 ∅ 0)
      ⊢ iprop(((owing c O ∗ semVal (barCell c) 0 ∗ barPayF c ∗ barPayT c) -∗ WP c (kont ⟨⟩) Q)
          -∗ WP c (.op (.semWait barS x) kont) Q) := by
  subst hx
  unfold owing WP
  iintro ⟨#HR, Hc, ⟨%W, HO⟩, #Hlev, Hat⟩ Hk
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (by rw [Nat.zero_add, expect_bar])) $$ [Hc HO Hat]
  · isplitr; · iapply (inv_bar m K c); iexact HR
    isplitl [Hc]; · iexact Hc
    isplitl [HO]; · iexact HO
    isplitr; · iapply (mayWait c (.reg barS) hO); iexact Hlev
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barCell c))) $$ [Hat] with Hz
  · isplitr; · iapply (inv_bar m K c); iexact HR
    iexact Hat
  iapply Hk
  isplitl [HO]; · iexists _; iexact HO
  isplitl [Hz]; · iexact Hz
  iexact Hp

end Waits

/-! ## Whole buffers, and the barrier's signals -/

section Whole
variable {c : Dev nD} {α : Type}

/-- Loading from a buffer reads what is there. -/
theorem load_at {sh : Shape} {e : EltTy} {M : Memref sig .tc .vmem sh e} {r : LoadRect sh} {f : Buf (Elt F) (M.view.loc (c : Thread nD τ))}
    {X : r.shape.Idx → Elt F e} (hX : M.view.readAt (Elt F) r f = X)
    {hl : M.view.LoadsAt r} {kont : (r.shape.Idx → Elt F e) → Prog (TpuEff nD τ sig (Elt F) Λ₀ .tc) α} {Q : α → sProp 𝕄} :
    (M.view.loc (c : Thread nD τ) ↦{fullShare} f : sProp 𝕄)
      ⊢ iprop(((M.view.loc (c : Thread nD τ) ↦{fullShare} f) -∗ WP c (kont X) Q) -∗ WP c (.op (.load M r hl) kont) Q) := by
  subst hX
  exact wp_load 𝒱₀ (c : Thread nD τ) none Set.univ (Finset.subset_univ _)

/-- Storing into a buffer overwrites the stored part. -/
theorem store_at {sh : Shape} {e : EltTy} {M : Memref sig .tc .vmem sh e} {r : Rect sh} {f : Buf (Elt F) (M.view.loc (c : Thread nD τ))}
    {w : r.shape.Idx → Elt F e} {g : Buf (Elt F) (M.view.loc (c : Thread nD τ))} (hg : (M.access r).write (Elt F) f w Finset.univ = g)
    {hx : (M.access r).Stores Finset.univ} {hm} {kont : PUnit → Prog (TpuEff nD τ sig (Elt F) Λ₀ .tc) α} {Q : α → sProp 𝕄} :
    (M.view.loc (c : Thread nD τ) ↦{fullShare} f : sProp 𝕄)
      ⊢ iprop(((M.view.loc (c : Thread nD τ) ↦{fullShare} g) -∗ WP c (kont ⟨⟩) Q) -∗ WP c (.op (.store M r w Finset.univ hx hm) kont) Q) := by
  subst hg
  exact wp_store 𝒱₀ (c : Thread nD τ) none Set.univ (m := M) (r := r) (Mk := Finset.univ) (Finset.subset_univ _)

/-- Signalling a neighbour's barrier hands it what that signal carries. -/
theorem signal_bar {n n' : Dev nD} (hn : n' = n) (d : Bool) (hr : τ.routes (c : Thread nD τ) (n : Thread nD τ) = true)
    {O₀ O : CellTallies nD τ sig Unit} (hO : O₀ = O + tallyAt (barCell n) () 1) {x : ℤ} (hx : x = 1)
    {kont : PUnit → Prog (TpuEff nD τ sig (Elt F) Λ₀ .tc) α} {Q : α → sProp 𝕄} :
    iprop(records m K ∗ owing c O₀ ∗ dutyTok ER (barCell n) 0 d ∗ (sched m).payload (barCell n) 0 d)
      ⊢ iprop((owing c O -∗ WP c (kont ⟨⟩) Q) -∗ WP c (.op (.semSignal (n' : Thread nD τ) barS x) kont) Q) := by
  subst hn hx
  rw [show (1 : ℤ) = ((1 : ℕ) : ℤ) from rfl]
  unfold owing WP
  iintro ⟨#HR, ⟨%W, HO⟩, Ht, Hp⟩ Hk
  iapply (Rounds.wp_signal 𝒱₀ ER (sched m) (c : Thread nD τ) none (dst := (n' : Thread nD τ)) (κ := K (n', none)) (sem := barS)
      (r := 0) (d := d) (by rw [duties_bar]; exact Finset.mem_univ _) (amount_bar m n' d) () O hO (W := W) hr) $$ [HO Ht Hp]
  · isplitr; · iapply (inv_bar m K n'); iexact HR
    isplitl [HO]; · iexact HO
    isplitl [Ht]; · iexact Ht
    isplitl [Hp]; · iexact Hp
    iapply (reached_bar m K n'); iexact HR
  iintro HO
  iapply Hk
  iexists W; iexact HO

end Whole

end Cert.MoeRing

end
-- ==== Proof.Refs.lean ====
/-
# The kernel at its buffers

The kernel's printed parts are functions of the buffers and semaphore arrays; here they are applied to the launch's own,
and the semaphore arrays' elements get their names.
-/
module

public import proofs.«01_k».proof.Proof.Steps

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A part of the kernel at the launch's buffers and semaphore arrays. -/
abbrev onRefs {β : Type 1} (p : (arg0 : Memref sig .tc .vmem S1024x512 .bf16) → (harg0 : arg0.IsWhole) → (arg1 : Memref sig .tc .vmem S512x16 .bf16) → (harg1 : arg1.IsWhole) → (arg2 : Memref sig .tc .vmem S1024x2 .i32) → (harg2 : arg2.IsWhole) → (arg3 : Memref sig .tc .vmem S4x512x1024 .bf16) → (harg3 : arg3.IsWhole) → (arg4 : Memref sig .tc .vmem S256x1024 .f32) → (harg4 : arg4.IsWhole) → (arg5 : Memref sig .tc .vmem S1024x4 .f32) → (harg5 : arg5.IsWhole) → (arg6 : Memref sig .tc .vmem S4x512x1024 .bf16) → (harg6 : arg6.IsWhole) → (arg7 : Memref sig .tc .vmem S4x256x512 .bf16) → (harg7 : arg7.IsWhole) → (arg8 : Memref sig .tc .vmem S4x256x512 .bf16) → (harg8 : arg8.IsWhole) → (arg9 : DmaSems sig S3) → (arg10 : DmaSems sig S3) → (arg11 : DmaSems sig S3) → (arg12 : DmaSems sig S3) → β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7

theorem ds0 : ((cc0_scratch4.slice (Rect.unit (s := S3) ![0] ![1] inb_S3_S1_0)).squeeze S_ squeezes_S1_S_).sem = dsem 0 := rfl
theorem ds1 : ((cc0_scratch4.slice (Rect.unit (s := S3) ![1] ![1] inb_S3_S1_1)).squeeze S_ squeezes_S1_S_).sem = dsem 1 := rfl
theorem ds2 : ((cc0_scratch4.slice (Rect.unit (s := S3) ![2] ![1] inb_S3_S1_2)).squeeze S_ squeezes_S1_S_).sem = dsem 2 := rfl
theorem ds3 : ((cc0_scratch5.slice (Rect.unit (s := S3) ![0] ![1] inb_S3_S1_0)).squeeze S_ squeezes_S1_S_).sem = dsem 3 := rfl
theorem ds4 : ((cc0_scratch5.slice (Rect.unit (s := S3) ![1] ![1] inb_S3_S1_1)).squeeze S_ squeezes_S1_S_).sem = dsem 4 := rfl
theorem ds5 : ((cc0_scratch5.slice (Rect.unit (s := S3) ![2] ![1] inb_S3_S1_2)).squeeze S_ squeezes_S1_S_).sem = dsem 5 := rfl
theorem ds6 : ((cc0_scratch6.slice (Rect.unit (s := S3) ![0] ![1] inb_S3_S1_0)).squeeze S_ squeezes_S1_S_).sem = dsem 6 := rfl
theorem ds7 : ((cc0_scratch6.slice (Rect.unit (s := S3) ![1] ![1] inb_S3_S1_1)).squeeze S_ squeezes_S1_S_).sem = dsem 7 := rfl
theorem ds8 : ((cc0_scratch6.slice (Rect.unit (s := S3) ![2] ![1] inb_S3_S1_2)).squeeze S_ squeezes_S1_S_).sem = dsem 8 := rfl
theorem ds9 : ((cc0_scratch7.slice (Rect.unit (s := S3) ![0] ![1] inb_S3_S1_0)).squeeze S_ squeezes_S1_S_).sem = dsem 9 := rfl
theorem ds10 : ((cc0_scratch7.slice (Rect.unit (s := S3) ![1] ![1] inb_S3_S1_1)).squeeze S_ squeezes_S1_S_).sem = dsem 10 := rfl
theorem ds11 : ((cc0_scratch7.slice (Rect.unit (s := S3) ![2] ![1] inb_S3_S1_2)).squeeze S_ squeezes_S1_S_).sem = dsem 11 := rfl

/-! ## What the buffers hold -/

section
variable (c : Dev nD)
abbrev xP : sProp 𝕄 := xM.view.loc (c : Thread nD τ) ↦{fullShare} xA m c
abbrev rwP : sProp 𝕄 := rwM.view.loc (c : Thread nD τ) ↦{fullShare} rwA m c
abbrev ixP : sProp 𝕄 := ixM.view.loc (c : Thread nD τ) ↦{fullShare} ixA m c
abbrev ewP : sProp 𝕄 := ewM.view.loc (c : Thread nD τ) ↦{fullShare} ewA m c
abbrev gP : sProp 𝕄 := gM.view.loc (c : Thread nD τ) ↦{fullShare} gates m c
abbrev wP : sProp 𝕄 := wM.view.loc (c : Thread nD τ) ↦{fullShare} wts m c

/-- The neighbours' numbers along the axis, as the kernel computes them. -/
abbrev a5 : BitVec 32 := Scalar.remsi (Scalar.subi (Scalar.addi (axw c) 4#32) 1#32) 4#32
abbrev a7 : BitVec 32 := Scalar.remsi (Scalar.addi (axw c) 1#32) 4#32
end

theorem hz2 : (![0, 0] : Fin 2 → ℕ) = fun _ => 0 := funext fun a => by fin_cases a <;> rfl
theorem hz3 : (![0, 0, 0] : Fin 3 → ℕ) = fun _ => 0 := funext fun a => by fin_cases a <;> rfl

theorem route_prv (c : Dev nD) : τ.routes (c : Thread nD τ) (prv c : Thread nD τ) = true := by routes
theorem route_nxt (c : Dev nD) : τ.routes (c : Thread nD τ) (nxt c : Thread nD τ) = true := by routes

end Cert.MoeRing

end
-- ==== Proof.Parts1.lean ====
/-
# The first parts of the kernel

The barrier handshake and the routing weights, then the first sends.
-/
module

public import proofs.«01_k».proof.Proof.Refs

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Option (Fin 12) → ℕ) (c : Dev nD)

/-- The handshake and the first loads: each neighbour gets this device's landing slots, and gives its own. -/
theorem part1 {Q : _ → sProp 𝕄} :
    iprop(records m K ∗ levAts L lv ∗ owing c (Q0 c) ∗ dutyTok ER (barCell (prv c)) 0 true ∗ dutyTok ER (barCell (nxt c)) 0 false
        ∗ (slotAny cwM 1 inb_S4x256x512_S1x256x512_1_0_0 c ∗ slotAny cwM 2 inb_S4x256x512_S1x256x512_2_0_0 c ∗ slotAny cwM 3 inb_S4x256x512_S1x256x512_3_0_0 c)
        ∗ (slotAny ccM 1 inb_S4x256x512_S1x256x512_1_0_0 c ∗ slotAny ccM 2 inb_S4x256x512_S1x256x512_2_0_0 c ∗ slotAny ccM 3 inb_S4x256x512_S1x256x512_3_0_0 c)
        ∗ cred (tallyAt (barCell c) () 2) ∗ atPos ER (barCell c) 0 ∅ 0 ∗ xP m c ∗ rwP m c ∗ ixP m c)
      ⊢ iprop(((owing c (P1 c) ∗ semVal (barCell c) 0 ∗ barPayF c ∗ barPayT c ∗ xP m c ∗ rwP m c ∗ ixP m c)
            -∗ Q ⟨c, axw c, a5 c, a7 c, probs m c, i0 m c, iota16, i1 m c⟩)
          -∗ WP c (onRefs (k0_part1 (F := F))) Q) := by
  unfold onRefs; rw [k0_part1_eq_skeleton]; unfold k0_part1_skel
  simp only [semSignalWord, semWaitWord, Prog.lift, Prog.bind_op, Prog.bind_ret, Prog.pure_eq_ret, wp_deviceId]
  iintro ⟨#HR, #Hlev, HO, Htp, Htn, Hcw, Hcc, Hcr, Hat, Hx, Hrw, Hix⟩ Hk
  iapply (signal_bar m K (dev1_eq c) true (route_prv c) (O₀ := Q0 c) (O := Q1 c) rfl (by decide)) $$ [HO Htp Hcw]
  · rw [payload_bar_true]; unfold barPayT; rw [nxt_prv]
    iframe
    iexact HR
  iintro HO
  iapply (signal_bar m K (dev2_eq c) false (route_nxt c) (O₀ := Q1 c) (O := P1 c) rfl (by decide)) $$ [HO Htn Hcc]
  · rw [payload_bar_false]; unfold barPayF; rw [prv_nxt]
    iframe
    iexact HR
  iintro HO
  iapply (wait_bar m K (above_P1 c (by decide)) (by decide)) $$ [HO Hcr Hat]
  · iframe
    isplitr <;> iassumption
  iintro ⟨HO, Hz, HF, HT⟩
  iapply (load_at (M := xM) (X := xA m c) (Memref.readAt_unit_zero (Elt F) cc0_stg0_0 hz2 _ _)) $$ Hx; iintro Hx
  iapply (load_at (M := rwM) (X := rwA m c) (Memref.readAt_unit_zero (Elt F) cc0_stg1_0 hz2 _ _)) $$ Hrw; iintro Hrw
  iapply (load_at (M := ixM) (X := ixA m c) (Memref.readAt_unit_zero (Elt F) cc0_stg2_0 hz2 _ _)) $$ Hix; iintro Hix
  iapply WP_ret
  iapply Hk
  iframe

/-- The routing weights of this device's experts. -/
theorem part2 {Q : _ → sProp 𝕄} :
    Q ⟨den m c, g0 m c, g1 m c, g2 m c, g3 m c⟩
      ⊢ WP c (onRefs (k0_part2 (F := F)) (axw c) (probs m c) (i0 m c) iota16 (i1 m c)) Q := by
  unfold onRefs; rw [k0_part2_eq_skeleton]; unfold k0_part2_skel
  simp only [Prog.pure_eq_ret, wp_ret]
  iintro H; imodintro; iexact H

/-- The weights and the experts' matrices are stored; the block before this device's is begun. -/
theorem part3 {Q : _ → sProp 𝕄} :
    iprop((∃ f, gM.view.loc (c : Thread nD τ) ↦{fullShare} f) ∗ (∃ f, wM.view.loc (c : Thread nD τ) ↦{fullShare} f) ∗ ewP m c ∗ xP m c)
      ⊢ iprop(((gP m c ∗ wP m c ∗ ewP m c ∗ xP m c)
            -∗ Q ⟨k0_pay12 (xL m c), gL m c, k0_pay13 (xL m c) (gL m c) (w0 m c) (w1 m c), k0_pay14 (gL m c)⟩)
          -∗ WP c (onRefs (k0_part3 (F := F)) c (a5 c) (den m c) (g0 m c) (g1 m c) (g2 m c) (g3 m c)) Q) := by
  unfold onRefs; rw [k0_part3_eq_skeleton]; unfold k0_part3_skel
  simp only [Prog.lift, Prog.bind_op, Prog.bind_ret, Prog.pure_eq_ret]
  iintro ⟨⟨%fg, Hg⟩, ⟨%fw, Hw⟩, He, Hx⟩ Hk
  iapply (load_at (M := gM) rfl) $$ Hg; iintro Hg
  iapply (store_at (M := gM) (g := gates m c) (Memref.write_access_unit_zero_univ (Elt F) cc0_scratch0 hz2 _ _ _)) $$ Hg; iintro Hg
  iapply (load_at (M := ewM) (X := ewA m c) (Memref.readAt_unit_zero (Elt F) cc0_stg3_0 hz3 _ _)) $$ He; iintro He
  iapply (load_at (M := wM) rfl) $$ Hw; iintro Hw
  iapply (store_at (M := wM) (g := wts m c) (Memref.write_access_unit_zero_univ (Elt F) cc0_scratch1 hz3 _ _ _)) $$ Hw; iintro Hw
  iapply (load_at (M := xM) (X := xL m c) rfl) $$ Hx; iintro Hx
  iapply (load_at (M := gM) (X := gL m c) rfl) $$ Hg; iintro Hg
  iapply (load_at (M := wM) (X := w0 m c) rfl) $$ Hw; iintro Hw
  iapply (load_at (M := wM) (X := w1 m c) rfl) $$ Hw; iintro Hw
  iapply WP_ret
  iapply Hk
  iframe

/-- The block before this device's is finished and its left half sent clockwise. -/
theorem part4 {Q : _ → sProp 𝕄} :
    iprop(records m K ∗ owing c (P1 c) ∗ dutyTok ER (dcell 0 c) 0 false ∗ dutyTok ER (dcell 3 (nxt c)) 0 false
        ∗ slotAny cwM 0 inb_S4x256x512_S1x256x512_0_0_0 c ∗ slotAny cwM 1 inb_S4x256x512_S1x256x512_1_0_0 (nxt c) ∗ wP m c ∗ xP m c)
      ⊢ iprop(((owing c (P2 c) ∗ cred (tallyAt (dcell 0 c) () N) ∗ wP m c ∗ xP m c)
            -∗ Q ⟨partL m c, Scalar.muli (a7 c) 256#32, xR m c⟩)
          -∗ WP c (onRefs (k0_part4 (F := F)) c (a7 c) (k0_pay12 (xL m c)) (gL m c) (k0_pay13 (xL m c) (gL m c) (w0 m c) (w1 m c)) (k0_pay14 (gL m c))) Q) := by
  unfold onRefs; rw [k0_part4_eq_skeleton]; unfold k0_part4_skel
  simp only [Prog.lift, Prog.bind_op, Prog.bind_ret, Prog.pure_eq_ret, ds0, ds3]
  iintro ⟨#HR, HO, Hts, Htr, Hs, Hd, Hw, Hx⟩ Hk
  iapply (load_at (M := wM) (X := w2 m c) rfl) $$ Hw; iintro Hw
  iapply (load_at (M := wM) (X := w3 m c) rfl) $$ Hw; iintro Hw
  ihave Hs' := (slotAny_elim cwM 0 _ c) $$ Hs
  icases Hs' with ⟨%X, Hs⟩
  iapply (load_slot (M := cwM) (k := 0)) $$ Hs; iintro Hs
  iapply (store_slot (M := cwM) (k := 0) (w := cw0 m c)) $$ Hs; iintro Hs
  iapply (send_slot m K (M := cwM) (k := 0) (k' := 1) (X := cw0 m c) 0 3 (dev3_eq c) rfl (Entails.of_eq rfl)
    (Entails.of_eq (by dsimp only [dpay]; rw [prv_nxt])) (route_nxt c) (O₀ := P1 c) (O := P2 c) rfl) $$ [Hs Hd HO Hts Htr]
  · iframe
    iexact HR
  iintro ⟨Hc, HO⟩
  iapply (load_at (M := xM) (X := xR m c) rfl) $$ Hx; iintro Hx
  iapply WP_ret
  unfold partL
  iapply Hk
  iframe

end Cert.MoeRing

end
-- ==== Proof.Parts2.lean ====
/-
# The rest of the kernel's parts

The two circulations: every arrival gets this device's share and goes on, the last ones make the result.
-/
module

public import proofs.«01_k».proof.Proof.Refs

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Option (Fin 12) → ℕ) (c : Dev nD)

/-- The block after this device's. -/
theorem part5 {Q : _ → sProp 𝕄} :
    iprop(gP m c ∗ wP m c)
      ⊢ iprop(((gP m c ∗ wP m c)
            -∗ Q ⟨partR m c, k0_pay18 (xR m c) (gR m c) (w0 m c) (w1 m c) (w2 m c) (w3 m c)⟩)
          -∗ WP c (onRefs (k0_part5 (F := F)) c (Scalar.muli (a7 c) 256#32) (xR m c)) Q) := by
  unfold onRefs; rw [k0_part5_eq_skeleton]; unfold k0_part5_skel
  simp only [Prog.lift, Prog.bind_op, Prog.bind_ret, Prog.pure_eq_ret]
  iintro ⟨Hg, Hw⟩ Hk
  iapply (load_at (M := gM) (X := gR m c) rfl) $$ Hg; iintro Hg
  iapply (load_at (M := wM) (X := w0 m c) rfl) $$ Hw; iintro Hw
  iapply (load_at (M := wM) (X := w1 m c) rfl) $$ Hw; iintro Hw
  iapply (load_at (M := wM) (X := w2 m c) rfl) $$ Hw; iintro Hw
  iapply (load_at (M := wM) (X := w3 m c) rfl) $$ Hw; iintro Hw
  iapply WP_ret
  unfold partR
  iapply Hk
  iframe

/-- Its right half is sent counter-clockwise; the block across is begun. -/
theorem part6 {Q : _ → sProp 𝕄} :
    iprop(records m K ∗ owing c (P2 c) ∗ dutyTok ER (dcell 6 (c)) 0 false ∗ dutyTok ER (dcell 9 (prv c)) 0 false ∗ slotAny ccM 0 inb_S4x256x512_S1x256x512_0_0_0 (c) ∗ slotAny ccM 1 inb_S4x256x512_S1x256x512_1_0_0 (prv c) ∗ gP m c ∗ wP m c ∗ xP m c)
      ⊢ iprop(((owing c (P3 c) ∗ cred (tallyAt (dcell 6 c) () N) ∗ gP m c ∗ wP m c ∗ xP m c)
            -∗ Q ⟨k0_pay20 (xO m c), gO m c, k0_pay21 (xO m c) (gO m c) (w0 m c), k0_pay22 (xO m c) (gO m c)⟩)
          -∗ WP c (onRefs (k0_part6 (F := F)) c (axw c) (a5 c) (k0_pay18 (xR m c) (gR m c) (w0 m c) (w1 m c) (w2 m c) (w3 m c))) Q) := by
  unfold onRefs; rw [k0_part6_eq_skeleton]; unfold k0_part6_skel
  simp only [Prog.lift, Prog.bind_op, Prog.bind_ret, Prog.pure_eq_ret, ds6, ds9]
  iintro ⟨#HR, HO, Hts, Htr, Hs, Hd, Hg, Hw, Hx⟩ Hk
  ihave Hs' := (slotAny_elim ccM 0 _ c) $$ Hs
  icases Hs' with ⟨%XHs, Hs⟩
  iapply (load_slot (M := ccM) (k := 0)) $$ Hs; iintro Hs
  iapply (store_slot (M := ccM) (k := 0) (w := cc0 m c)) $$ Hs; iintro Hs
  iapply (send_slot m K (M := ccM) (k := 0) (k' := 1) (X := cc0 m c) 6 9 (dev4_eq c) rfl (Entails.of_eq rfl)
    (Entails.of_eq (by dsimp only [dpay]; rw [nxt_prv])) (route_prv c) (O₀ := P2 c) (O := P3 c) rfl) $$ [Hs Hd HO Hts Htr]
  · iframe
    iexact HR
  iintro ⟨Hc, HO⟩
  iapply (load_at (M := xM) (X := xO m c) rfl) $$ Hx; iintro Hx
  iapply (load_at (M := gM) (X := gO m c) rfl) $$ Hg; iintro Hg
  iapply (load_at (M := wM) (X := w0 m c) rfl) $$ Hw; iintro Hw
  iapply WP_ret
  iapply Hk
  iframe

/-- The block across is finished; the first clockwise arrival is awaited. -/
theorem part7 {Q : _ → sProp 𝕄} :
    iprop(records m K ∗ levAts L lv ∗ owing c (P3 c) ∗ cred (tallyAt (dcell 3 c) () N) ∗ atPos ER (dcell 3 c) 0 ∅ 0 ∗ wP m c)
      ⊢ iprop(((owing c (P3 c) ∗ semVal (dcell 3 c) 0 ∗ slot cwM 1 inb_S4x256x512_S1x256x512_1_0_0 c (cw0 m (prv c)) ∗ wP m c)
            -∗ Q ⟨partO m c, k0_pay24 (cw0 m (prv c)), halfO m c⟩)
          -∗ WP c (onRefs (k0_part7 (F := F)) (a7 c) (k0_pay20 (xO m c)) (gO m c) (k0_pay21 (xO m c) (gO m c) (w0 m c)) (k0_pay22 (xO m c) (gO m c))) Q) := by
  unfold onRefs; rw [k0_part7_eq_skeleton]; unfold k0_part7_skel
  simp only [Prog.lift, Prog.bind_op, Prog.bind_ret, Prog.pure_eq_ret, ds3]
  iintro ⟨#HR, #Hlev, HO, Hc, Hat, Hw⟩ Hk
  iapply (load_at (M := wM) (X := w1 m c) rfl) $$ Hw; iintro Hw
  iapply (load_at (M := wM) (X := w2 m c) rfl) $$ Hw; iintro Hw
  iapply (load_at (M := wM) (X := w3 m c) rfl) $$ Hw; iintro Hw
  iapply (wait_dma m K 3 (O := P3 c) (above_P3 c (by decide)) (dst := sk cwM 1 inb_S4x256x512_S1x256x512_1_0_0) (cred_cw _ _)) $$ [HO Hc Hat]
  · iframe
    isplitr <;> iassumption
  iintro ⟨HO, Hz, Hs⟩
  dsimp only [dpay]
  iapply (load_slot (M := cwM) (k := 1)) $$ Hs; iintro Hs
  iapply WP_ret
  unfold partO halfO
  iapply Hk
  iframe

/-- The arrival with this device's share goes on clockwise; the first counter-clockwise arrival is awaited. -/
theorem part8 {Q : _ → sProp 𝕄} :
    iprop(records m K ∗ levAts L lv ∗ owing c (P3 c) ∗ slot cwM 1 inb_S4x256x512_S1x256x512_1_0_0 c (cw0 m (prv c)) ∗ slotAny cwM 2 inb_S4x256x512_S1x256x512_2_0_0 (nxt c) ∗ dutyTok ER (dcell 1 (c)) 0 false ∗ dutyTok ER (dcell 4 (nxt c)) 0 false ∗ cred (tallyAt (dcell 9 c) () N) ∗ atPos ER (dcell 9 c) 0 ∅ 0)
      ⊢ iprop(((owing c (P4 c) ∗ cred (tallyAt (dcell 1 c) () N) ∗ semVal (dcell 9 c) 0 ∗ slot ccM 1 inb_S4x256x512_S1x256x512_1_0_0 c (cc0 m (nxt c)))
            -∗ Q (k0_pay27 (partO m c) (cc0 m (nxt c))))
          -∗ WP c (onRefs (k0_part8 (F := F)) c (a5 c) (a7 c) (partO m c) (k0_pay24 (cw0 m (prv c))) (halfO m c)) Q) := by
  unfold onRefs; rw [k0_part8_eq_skeleton]; unfold k0_part8_skel
  simp only [Prog.lift, Prog.bind_op, Prog.bind_ret, Prog.pure_eq_ret, ds1, ds4, ds9]
  iintro ⟨#HR, #Hlev, HO, Hs, Hd, Hts, Htr, Hc9, Hat⟩ Hk
  iapply (load_slot (M := cwM) (k := 1)) $$ Hs; iintro Hs
  iapply (store_slot (M := cwM) (k := 1) (w := cw1 m c)) $$ Hs; iintro Hs
  iapply (send_slot m K (M := cwM) (k := 1) (k' := 2) (X := cw1 m c) 1 4 (dev5_eq c) rfl (Entails.of_eq rfl)
    (Entails.of_eq (by dsimp only [dpay]; rw [prv_nxt])) (route_nxt c) (O₀ := P3 c) (O := P4 c) rfl) $$ [Hs Hd HO Hts Htr]
  · iframe
    iexact HR
  iintro ⟨Hc, HO⟩
  iapply (wait_dma m K 9 (O := P4 c) (above_P4 c (by decide)) (dst := sk ccM 1 inb_S4x256x512_S1x256x512_1_0_0) (cred_cc _ _)) $$ [HO Hc9 Hat]
  · iframe
    isplitr <;> iassumption
  iintro ⟨HO, Hz, Hr⟩
  dsimp only [dpay]
  iapply (load_slot (M := ccM) (k := 1)) $$ Hr; iintro Hr
  iapply WP_ret
  iapply Hk
  iframe

/-- That arrival with this device's share goes on counter-clockwise; the second clockwise arrival gets this device's share. -/
theorem part9 {Q : _ → sProp 𝕄} :
    iprop(records m K ∗ levAts L lv ∗ owing c (P4 c) ∗ slot ccM 1 inb_S4x256x512_S1x256x512_1_0_0 c (cc0 m (nxt c)) ∗ slotAny ccM 2 inb_S4x256x512_S1x256x512_2_0_0 (prv c) ∗ dutyTok ER (dcell 7 (c)) 0 false ∗ dutyTok ER (dcell 10 (prv c)) 0 false ∗ cred (tallyAt (dcell 4 c) () N) ∗ atPos ER (dcell 4 c) 0 ∅ 0)
      ⊢ iprop(((owing c (P5 c) ∗ cred (tallyAt (dcell 7 c) () N) ∗ semVal (dcell 4 c) 0 ∗ slot cwM 2 inb_S4x256x512_S1x256x512_2_0_0 c (cw2 m c))
            -∗ Q ⟨⟩)
          -∗ WP c (onRefs (k0_part9 (F := F)) c (a5 c) (a7 c) (partR m c) (k0_pay27 (partO m c) (cc0 m (nxt c)))) Q) := by
  unfold onRefs; rw [k0_part9_eq_skeleton]; unfold k0_part9_skel
  simp only [Prog.lift, Prog.bind_op, Prog.bind_ret, Prog.pure_eq_ret, ds7, ds10, ds4]
  iintro ⟨#HR, #Hlev, HO, Hs, Hd, Hts, Htr, Hc9, Hat⟩ Hk
  iapply (load_slot (M := ccM) (k := 1)) $$ Hs; iintro Hs
  iapply (store_slot (M := ccM) (k := 1) (w := cc1 m c)) $$ Hs; iintro Hs
  iapply (send_slot m K (M := ccM) (k := 1) (k' := 2) (X := cc1 m c) 7 10 (dev6_eq c) rfl (Entails.of_eq rfl)
    (Entails.of_eq (by dsimp only [dpay]; rw [nxt_prv])) (route_prv c) (O₀ := P4 c) (O := P5 c) rfl) $$ [Hs Hd HO Hts Htr]
  · iframe
    iexact HR
  iintro ⟨Hc, HO⟩
  iapply (wait_dma m K 4 (O := P5 c) (above_P5 c (by decide)) (dst := sk cwM 2 inb_S4x256x512_S1x256x512_2_0_0) (cred_cw _ _)) $$ [HO Hc9 Hat]
  · iframe
    isplitr <;> iassumption
  iintro ⟨HO, Hz, Hr⟩
  dsimp only [dpay]
  iapply (load_slot (M := cwM) (k := 2)) $$ Hr; iintro Hr
  iapply (load_slot (M := cwM) (k := 2)) $$ Hr; iintro Hr
  iapply (store_slot (M := cwM) (k := 2) (w := cw2 m c)) $$ Hr; iintro Hr
  iapply WP_ret
  iapply Hk
  iframe

/-- It goes on clockwise; the second counter-clockwise arrival gets this device's share. -/
theorem part10 {Q : _ → sProp 𝕄} :
    iprop(records m K ∗ levAts L lv ∗ owing c (P5 c) ∗ slot cwM 2 inb_S4x256x512_S1x256x512_2_0_0 c (cw2 m c) ∗ slotAny cwM 3 inb_S4x256x512_S1x256x512_3_0_0 (nxt c) ∗ dutyTok ER (dcell 2 (c)) 0 false ∗ dutyTok ER (dcell 5 (nxt c)) 0 false ∗ cred (tallyAt (dcell 10 c) () N) ∗ atPos ER (dcell 10 c) 0 ∅ 0)
      ⊢ iprop(((owing c (P6 c) ∗ cred (tallyAt (dcell 2 c) () N) ∗ semVal (dcell 10 c) 0 ∗ slot ccM 2 inb_S4x256x512_S1x256x512_2_0_0 c (cc2 m c))
            -∗ Q (Scalar.muli (a5 c) 1#32))
          -∗ WP c (onRefs (k0_part10 (F := F)) c (a5 c) (a7 c) (partL m c)) Q) := by
  unfold onRefs; rw [k0_part10_eq_skeleton]; unfold k0_part10_skel
  simp only [Prog.lift, Prog.bind_op, Prog.bind_ret, Prog.pure_eq_ret, ds2, ds5, ds10]
  iintro ⟨#HR, #Hlev, HO, Hs, Hd, Hts, Htr, Hc9, Hat⟩ Hk
  iapply (send_slot m K (M := cwM) (k := 2) (k' := 3) (X := cw2 m c) 2 5 (dev7_eq c) rfl (Entails.of_eq rfl)
    (Entails.of_eq (by dsimp only [dpay]; rw [prv_nxt])) (route_nxt c) (O₀ := P5 c) (O := P6 c) rfl) $$ [Hs Hd HO Hts Htr]
  · iframe
    iexact HR
  iintro ⟨Hc, HO⟩
  iapply (wait_dma m K 10 (O := P6 c) (above_P6 c (by decide)) (dst := sk ccM 2 inb_S4x256x512_S1x256x512_2_0_0) (cred_cc _ _)) $$ [HO Hc9 Hat]
  · iframe
    isplitr <;> iassumption
  iintro ⟨HO, Hz, Hr⟩
  dsimp only [dpay]
  iapply (load_slot (M := ccM) (k := 2)) $$ Hr; iintro Hr
  iapply (load_slot (M := ccM) (k := 2)) $$ Hr; iintro Hr
  iapply (store_slot (M := ccM) (k := 2) (w := cc2 m c)) $$ Hr; iintro Hr
  iapply WP_ret
  iapply Hk
  iframe

/-- It goes on counter-clockwise; this device's own block is begun. -/
theorem part11 {Q : _ → sProp 𝕄} :
    iprop(records m K ∗ owing c (P6 c) ∗ slot ccM 2 inb_S4x256x512_S1x256x512_2_0_0 c (cc2 m c) ∗ slotAny ccM 3 inb_S4x256x512_S1x256x512_3_0_0 (prv c) ∗ dutyTok ER (dcell 8 (c)) 0 false ∗ dutyTok ER (dcell 11 (prv c)) 0 false ∗ gP m c ∗ wP m c ∗ xP m c)
      ⊢ iprop(((owing c 0 ∗ cred (tallyAt (dcell 8 c) () N) ∗ gP m c ∗ wP m c ∗ xP m c)
            -∗ Q ⟨k0_pay31 (xS m c), gS m c, k0_pay32 (xS m c) (gS m c) (w0 m c) (w1 m c), k0_pay33 (xS m c) (gS m c)⟩)
          -∗ WP c (onRefs (k0_part11 (F := F)) c (axw c) (Scalar.muli (a5 c) 1#32)) Q) := by
  unfold onRefs; rw [k0_part11_eq_skeleton]; unfold k0_part11_skel
  simp only [Prog.lift, Prog.bind_op, Prog.bind_ret, Prog.pure_eq_ret, ds8, ds11]
  iintro ⟨#HR, HO, Hs, Hd, Hts, Htr, Hg, Hw, Hx⟩ Hk
  iapply (send_slot m K (M := ccM) (k := 2) (k' := 3) (X := cc2 m c) 8 11 (dev8_eq c) rfl (Entails.of_eq rfl)
    (Entails.of_eq (by dsimp only [dpay]; rw [nxt_prv])) (route_prv c) (O₀ := P6 c) (O := 0) rfl) $$ [Hs Hd HO Hts Htr]
  · iframe
    iexact HR
  iintro ⟨Hc, HO⟩
  iapply (load_at (M := xM) (X := xS m c) rfl) $$ Hx; iintro Hx
  iapply (load_at (M := gM) (X := gS m c) rfl) $$ Hg; iintro Hg
  iapply (load_at (M := wM) (X := w0 m c) rfl) $$ Hw; iintro Hw
  iapply (load_at (M := wM) (X := w1 m c) rfl) $$ Hw; iintro Hw
  iapply WP_ret
  iapply Hk
  iframe

/-- The two halves of the result's block. -/
abbrev rL : Rect S256x1024 := Rect.unit (s := S256x1024) ![0, 0] S256x512.size inb_S256x1024_S256x512_0_0
abbrev rR : Rect S256x1024 := Rect.unit (s := S256x1024) ![0, 512] S256x512.size inb_S256x1024_S256x512_0_512

/-- The last clockwise arrival and this device's own share make the left half of the result. -/
theorem part12 {Q : _ → sProp 𝕄} :
    iprop(records m K ∗ levAts L lv ∗ owing c 0 ∗ cred (tallyAt (dcell 5 c) () N) ∗ atPos ER (dcell 5 c) 0 ∅ 0 ∗ wP m c ∗ (∃ f, oM.view.loc (c : Thread nD τ) ↦{fullShare} f))
      ⊢ iprop(((owing c 0 ∗ semVal (dcell 5 c) 0 ∗ slot cwM 3 inb_S4x256x512_S1x256x512_3_0_0 c (cw2 m (prv c)) ∗ wP m c ∗ (∃ f, oM.view.loc (c : Thread nD τ) ↦{fullShare} ((oM.access rL).write (Elt F) f (outL m c) Finset.univ)))
            -∗ Q (partS m c))
          -∗ WP c (onRefs (k0_part12 (F := F)) (a5 c) (a7 c) (k0_pay31 (xS m c)) (gS m c) (k0_pay32 (xS m c) (gS m c) (w0 m c) (w1 m c)) (k0_pay33 (xS m c) (gS m c))) Q) := by
  unfold onRefs; rw [k0_part12_eq_skeleton]; unfold k0_part12_skel
  simp only [Prog.lift, Prog.bind_op, Prog.bind_ret, Prog.pure_eq_ret, ds5]
  iintro ⟨#HR, #Hlev, HO, Hc, Hat, Hw, ⟨%fo, Ho⟩⟩ Hk
  iapply (load_at (M := wM) (X := w2 m c) rfl) $$ Hw; iintro Hw
  iapply (load_at (M := wM) (X := w3 m c) rfl) $$ Hw; iintro Hw
  iapply (wait_dma m K 5 (O := 0) (above_zero _) (dst := sk cwM 3 inb_S4x256x512_S1x256x512_3_0_0) (cred_cw _ _)) $$ [HO Hc Hat]
  · iframe
    isplitr <;> iassumption
  iintro ⟨HO, Hz, Hs⟩
  dsimp only [dpay]
  iapply (load_slot (M := cwM) (k := 3)) $$ Hs; iintro Hs
  iapply (load_at (M := oM) rfl) $$ Ho; iintro Ho
  iapply (store_at (M := oM) (r := rL) rfl) $$ Ho; iintro Ho
  iapply WP_ret
  unfold partS outL
  iapply Hk
  iframe
  iexists fo; iexact Ho

/-- The last counter-clockwise arrival makes the right half; the first two clockwise sends are seen done. -/
theorem part13 {Q : _ → sProp 𝕄} :
    iprop(records m K ∗ levAts L lv ∗ owing c 0 ∗ cred (tallyAt (dcell 11 c) () N) ∗ atPos ER (dcell 11 c) 0 ∅ 0 ∗ cred (tallyAt (dcell 0 c) () N) ∗ atPos ER (dcell 0 c) 0 ∅ 0 ∗ cred (tallyAt (dcell 1 c) () N) ∗ atPos ER (dcell 1 c) 0 ∅ 0 ∗ (∃ f, oM.view.loc (c : Thread nD τ) ↦{fullShare} ((oM.access rL).write (Elt F) f (outL m c) Finset.univ)))
      ⊢ iprop(((owing c 0 ∗ semVal (dcell 11 c) 0 ∗ slot ccM 3 inb_S4x256x512_S1x256x512_3_0_0 c (cc2 m (nxt c)) ∗ semVal (dcell 0 c) 0 ∗ slot cwM 0 inb_S4x256x512_S1x256x512_0_0_0 c (cw0 m c) ∗ semVal (dcell 1 c) 0 ∗ slot cwM 1 inb_S4x256x512_S1x256x512_1_0_0 c (cw1 m c) ∗ (∃ f, oM.view.loc (c : Thread nD τ) ↦{fullShare} ((oM.access rR).write (Elt F) ((oM.access rL).write (Elt F) f (outL m c) Finset.univ) (outR m c) Finset.univ)))
            -∗ Q ⟨⟩)
          -∗ WP c (onRefs (k0_part13 (F := F)) (partS m c)) Q) := by
  unfold onRefs; rw [k0_part13_eq_skeleton]; unfold k0_part13_skel
  simp only [Prog.lift, Prog.bind_op, Prog.bind_ret, Prog.pure_eq_ret, ds11, ds0, ds1]
  iintro ⟨#HR, #Hlev, HO, Hc, Hat, Hc0, Hat0, Hc1, Hat1, ⟨%fo, Ho⟩⟩ Hk
  iapply (wait_dma m K 11 (O := 0) (above_zero _) (dst := sk ccM 3 inb_S4x256x512_S1x256x512_3_0_0) (cred_cc _ _)) $$ [HO Hc Hat]
  · iframe
    isplitr <;> iassumption
  iintro ⟨HO, Hz, Hs⟩
  dsimp only [dpay]
  iapply (load_slot (M := ccM) (k := 3)) $$ Hs; iintro Hs
  iapply (load_at (M := oM) rfl) $$ Ho; iintro Ho
  iapply (store_at (M := oM) (r := rR) rfl) $$ Ho; iintro Ho
  iapply (wait_dma m K 0 (O := 0) (above_zero _) (dst := sk cwM 0 inb_S4x256x512_S1x256x512_0_0_0) (cred_cw _ _)) $$ [HO Hc0 Hat0]
  · iframe
    isplitr <;> iassumption
  iintro ⟨HO, Hz0, Hs0⟩
  dsimp only [dpay]
  iapply (wait_dma m K 1 (O := 0) (above_zero _) (dst := sk cwM 1 inb_S4x256x512_S1x256x512_1_0_0) (cred_cw _ _)) $$ [HO Hc1 Hat1]
  · iframe
    isplitr <;> iassumption
  iintro ⟨HO, Hz1, Hs1⟩
  dsimp only [dpay]
  iapply WP_ret
  unfold outR
  iapply Hk
  iframe
  iexists fo; iexact Ho

end Cert.MoeRing

end
-- ==== Proof.Slots.lean ====
/-
# The landing buffers' slots, and the result's two halves

A landing buffer is its four slots; the result's block is what the two stores leave.
-/
module

public import proofs.«01_k».proof.Proof.Refs
public import Idealize.ShloMosaic.Lib.Ring.AtN
public import Idealize.ShloMosaic.Lib.ValueIdx

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.ValueIdx

/-! ## Four slots make a landing buffer -/

theorem inB (k : Fin 4) : InB k.val := fun a => by revert a; fin_cases k <;> decide

/-- The elements of slot `k`. -/
def slotSet (M : Memref sig .tc .vmem S4x256x512 .bf16) (k : Fin 4) : Finset M.view.ty.Idx := (M.access (rk k.val (inB k))).set

theorem slots_disjoint (M : Memref sig .tc .vmem S4x256x512 .bf16) (k k' : Fin 4) (h : k ≠ k') : Disjoint (slotSet M k) (slotSet M k') := by
  refine View.disjoint_slice ?_
  rw [Finset.disjoint_left]
  intro y hy
  refine Rect.not_mem_set_of_axis _ y 0 k'.val 1 rfl rfl rfl ?_
  obtain ⟨j, hj, e⟩ := (rk k.val (inB k)).mem_set.mp hy 0
  have h1 : j < 1 := hj
  have e' : (y 0).val = k.val + 1 * j := e
  have hne : k.val ≠ k'.val := fun e => h (Fin.ext e)
  omega

theorem mem_slot (y : S4x256x512.Idx) : y ∈ (rk (y 0).val (inB (y 0))).set := by
  refine (rk (y 0).val (inB (y 0))).mem_set.mpr fun a => ?_
  match a with
  | ⟨0, _⟩ => exact ⟨0, Nat.one_pos, rfl⟩
  | ⟨1, _⟩ => exact ⟨(y 1).val, (y 1).isLt, ((Nat.zero_add _).trans (Nat.one_mul _)).symm⟩
  | ⟨2, _⟩ => exact ⟨(y 2).val, (y 2).isLt, ((Nat.zero_add _).trans (Nat.one_mul _)).symm⟩

theorem cover_cw : Finset.univ.biUnion (slotSet cwM) = Finset.univ :=
  Finset.eq_univ_of_forall fun y => Finset.mem_biUnion.mpr ⟨(y 0 : Fin 4), Finset.mem_univ _, by
    unfold slotSet
    exact (View.set_slice_whole cc0_scratch2 (rk (y 0).val (inB (y 0)))).symm ▸ mem_slot y⟩
theorem cover_cc : Finset.univ.biUnion (slotSet ccM) = Finset.univ :=
  Finset.eq_univ_of_forall fun y => Finset.mem_biUnion.mpr ⟨(y 0 : Fin 4), Finset.mem_univ _, by
    unfold slotSet
    exact (View.set_slice_whole cc0_scratch3 (rk (y 0).val (inB (y 0)))).symm ▸ mem_slot y⟩

/-- All four slots, contents unsaid. -/
def slots4 (M : Memref sig .tc .vmem S4x256x512 .bf16) (c : Dev nD) : sProp 𝕄 :=
  iprop(slotAny M 0 inb_S4x256x512_S1x256x512_0_0_0 c ∗ slotAny M 1 inb_S4x256x512_S1x256x512_1_0_0 c
    ∗ slotAny M 2 inb_S4x256x512_S1x256x512_2_0_0 c ∗ slotAny M 3 inb_S4x256x512_S1x256x512_3_0_0 c)

/-- A landing buffer splits into its slots, … -/
theorem slots_split (M : Memref sig .tc .vmem S4x256x512 .bf16) (hc : Finset.univ.biUnion (slotSet M) = Finset.univ) (c : Dev nD) :
    iprop(∃ f, M.view.loc (c : Thread nD τ) ↦{fullShare} f) ⊢ (slots4 M c : sProp 𝕄) :=
  Ring.slots4_split (ℓ := M.view.loc (c : Thread nD τ)) (slotSet M) (slots_disjoint M) hc
    (fun f => iprop(M.view.loc (c : Thread nD τ) ↦[(M.access (rk 0 inb_S4x256x512_S1x256x512_0_0_0)).set]{fullShare} f))
    (fun f => iprop(M.view.loc (c : Thread nD τ) ↦[(M.access (rk 1 inb_S4x256x512_S1x256x512_1_0_0)).set]{fullShare} f))
    (fun f => iprop(M.view.loc (c : Thread nD τ) ↦[(M.access (rk 2 inb_S4x256x512_S1x256x512_2_0_0)).set]{fullShare} f))
    (fun f => iprop(M.view.loc (c : Thread nD τ) ↦[(M.access (rk 3 inb_S4x256x512_S1x256x512_3_0_0)).set]{fullShare} f))
    (fun _ => rfl) (fun _ => rfl) (fun _ => rfl) (fun _ => rfl)
/-- … and its slots make it whole again. -/
theorem slots_join (M : Memref sig .tc .vmem S4x256x512 .bf16) (hc : Finset.univ.biUnion (slotSet M) = Finset.univ) (c : Dev nD) :
    (slots4 M c : sProp 𝕄) ⊢ iprop(∃ f, M.view.loc (c : Thread nD τ) ↦{fullShare} f) :=
  Ring.slots4_join (ℓ := M.view.loc (c : Thread nD τ)) (slotSet M) (slots_disjoint M) hc
    (fun f => iprop(M.view.loc (c : Thread nD τ) ↦[(M.access (rk 0 inb_S4x256x512_S1x256x512_0_0_0)).set]{fullShare} f))
    (fun f => iprop(M.view.loc (c : Thread nD τ) ↦[(M.access (rk 1 inb_S4x256x512_S1x256x512_1_0_0)).set]{fullShare} f))
    (fun f => iprop(M.view.loc (c : Thread nD τ) ↦[(M.access (rk 2 inb_S4x256x512_S1x256x512_2_0_0)).set]{fullShare} f))
    (fun f => iprop(M.view.loc (c : Thread nD τ) ↦[(M.access (rk 3 inb_S4x256x512_S1x256x512_3_0_0)).set]{fullShare} f))
    (fun _ => rfl) (fun _ => rfl) (fun _ => rfl) (fun _ => rfl)

/-! ## The result's block -/

/-- The result's block on device `c`: its left half columns, then its right half columns. -/
def outAt (c : Dev nD) : Vec F S256x1024 .f32 := fun i =>
  if h : (i 1).val < 512 then outL m c (ix2 (i 0) ⟨(i 1).val, h⟩)
  else outR m c (ix2 (i 0) ⟨(i 1).val - 512, by have : (i 1).val < 1024 := (i 1).isLt; omega⟩)

/-- The two stores leave exactly that, whatever was there. -/
theorem out_eq (c : Dev nD) (f : cc0_stg4_0.ty.Contents (Elt F)) :
    (oM.access (Rect.unit (s := S256x1024) ![0, 512] S256x512.size inb_S256x1024_S256x512_0_512)).write (Elt F)
      ((oM.access (Rect.unit (s := S256x1024) ![0, 0] S256x512.size inb_S256x1024_S256x512_0_0)).write (Elt F) f (outL m c) Finset.univ)
      (outR m c) Finset.univ = outAt m c := by
  rw [show (oM.access (Rect.unit (s := S256x1024) ![0, 512] S256x512.size inb_S256x1024_S256x512_0_512)).write (Elt F) _ (outR m c) Finset.univ
      = _ from View.write_whole_slice_unit cc0_stg4_0 ![0, 512] S256x512.size inb_S256x1024_S256x512_0_512 _ (outR m c),
    show (oM.access (Rect.unit (s := S256x1024) ![0, 0] S256x512.size inb_S256x1024_S256x512_0_0)).write (Elt F) f (outL m c) Finset.univ
      = _ from View.write_whole_slice_unit cc0_stg4_0 ![0, 0] S256x512.size inb_S256x1024_S256x512_0_0 f (outL m c)]
  funext i
  have h0 : (i 0).val < 256 := (i 0).isLt
  have h1 : (i 1).val < 1024 := (i 1).isLt
  unfold updateSlice outAt
  by_cases h : (i 1).val < 512
  · rw [dif_pos h, dif_neg (fun hin => by have := (hin 1).1; change 512 ≤ (i 1).val at this; omega), dif_pos (fun a => by
      match a with
      | ⟨0, _⟩ => exact ⟨Nat.zero_le _, by show (i 0).val < 0 + 256; omega⟩
      | ⟨1, _⟩ => exact ⟨Nat.zero_le _, by show (i 1).val < 0 + 512; omega⟩)]
    congr 1; funext a
    match a with
    | ⟨0, _⟩ => rfl
    | ⟨1, _⟩ => rfl
  · rw [dif_neg h, dif_pos (fun a => by
      match a with
      | ⟨0, _⟩ => exact ⟨Nat.zero_le _, by show (i 0).val < 0 + 256; omega⟩
      | ⟨1, _⟩ => exact ⟨by show 512 ≤ (i 1).val; omega, by show (i 1).val < 512 + 512; omega⟩)]
    congr 1; funext a
    match a with
    | ⟨0, _⟩ => rfl
    | ⟨1, _⟩ => rfl

end Cert.MoeRing

end
-- ==== Proof.Body.lean ====
/-
# The kernel's body

The fourteen parts one after the other.
-/
module

public import proofs.«01_k».proof.Proof.Parts1
public import proofs.«01_k».proof.Proof.Parts2
public import proofs.«01_k».proof.Proof.Slots

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
/-- The one-shot rights device `c` starts with: a signal at each neighbour, and both ends of each of its transfers. -/
def toks (c : Dev nD) : sProp 𝕄 :=
  iprop(dutyTok ER (barCell (prv c)) 0 true
    ∗ dutyTok ER (barCell (nxt c)) 0 false
    ∗ dutyTok ER (dcell 0 c) 0 false
    ∗ dutyTok ER (dcell 1 c) 0 false
    ∗ dutyTok ER (dcell 2 c) 0 false
    ∗ dutyTok ER (dcell 3 (nxt c)) 0 false
    ∗ dutyTok ER (dcell 4 (nxt c)) 0 false
    ∗ dutyTok ER (dcell 5 (nxt c)) 0 false
    ∗ dutyTok ER (dcell 6 c) 0 false
    ∗ dutyTok ER (dcell 7 c) 0 false
    ∗ dutyTok ER (dcell 8 c) 0 false
    ∗ dutyTok ER (dcell 9 (prv c)) 0 false
    ∗ dutyTok ER (dcell 10 (prv c)) 0 false
    ∗ dutyTok ER (dcell 11 (prv c)) 0 false)
/-- What it may wait for from the start: both neighbours' signals and six arrivals. -/
def creds (c : Dev nD) : sProp 𝕄 :=
  iprop(cred (tallyAt (barCell c) () 2)
    ∗ cred (tallyAt (dcell 3 c) () N)
    ∗ cred (tallyAt (dcell 4 c) () N)
    ∗ cred (tallyAt (dcell 5 c) () N)
    ∗ cred (tallyAt (dcell 9 c) () N)
    ∗ cred (tallyAt (dcell 10 c) () N)
    ∗ cred (tallyAt (dcell 11 c) () N))
/-- Its place at each of its own semaphores. -/
def poss (c : Dev nD) : sProp 𝕄 :=
  iprop(atPos ER (barCell c) 0 ∅ 0
    ∗ atPos ER (dcell 0 c) 0 ∅ 0
    ∗ atPos ER (dcell 1 c) 0 ∅ 0
    ∗ atPos ER (dcell 2 c) 0 ∅ 0
    ∗ atPos ER (dcell 3 c) 0 ∅ 0
    ∗ atPos ER (dcell 4 c) 0 ∅ 0
    ∗ atPos ER (dcell 5 c) 0 ∅ 0
    ∗ atPos ER (dcell 6 c) 0 ∅ 0
    ∗ atPos ER (dcell 7 c) 0 ∅ 0
    ∗ atPos ER (dcell 8 c) 0 ∅ 0
    ∗ atPos ER (dcell 9 c) 0 ∅ 0
    ∗ atPos ER (dcell 10 c) 0 ∅ 0
    ∗ atPos ER (dcell 11 c) 0 ∅ 0)
/-- Its semaphores drained. -/
def zeros (c : Dev nD) : sProp 𝕄 :=
  iprop(semVal (barCell c) 0
    ∗ semVal (dcell 0 c) 0
    ∗ semVal (dcell 1 c) 0
    ∗ semVal (dcell 2 c) 0
    ∗ semVal (dcell 3 c) 0
    ∗ semVal (dcell 4 c) 0
    ∗ semVal (dcell 5 c) 0
    ∗ semVal (dcell 6 c) 0
    ∗ semVal (dcell 7 c) 0
    ∗ semVal (dcell 8 c) 0
    ∗ semVal (dcell 9 c) 0
    ∗ semVal (dcell 10 c) 0
    ∗ semVal (dcell 11 c) 0)

theorem WP_bind {c : Dev nD} {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ _ _ _).symm

variable (K : Dev nD × Option (Fin 12) → ℕ) (c : Dev nD)

/-- The kernel's body on device `c`: from the rights, credits and buffers of the launch to the result's block, every
    debt paid and every semaphore drained. -/
theorem body_run {Q : PUnit → sProp 𝕄} :
    iprop(records m K ∗ levAts L lv ∗ owing c (Q0 c) ∗ toks c ∗ creds c ∗ poss c ∗ slots4 cwM c ∗ slots4 ccM c
        ∗ (∃ f, gM.view.loc (c : Thread nD τ) ↦{fullShare} f) ∗ (∃ f, wM.view.loc (c : Thread nD τ) ↦{fullShare} f)
        ∗ xP m c ∗ rwP m c ∗ ixP m c ∗ ewP m c ∗ (∃ f, oM.view.loc (c : Thread nD τ) ↦{fullShare} f))
      ⊢ iprop(((owing c 0 ∗ zeros c ∗ slots4 cwM c ∗ slots4 ccM c
            ∗ (∃ f, gM.view.loc (c : Thread nD τ) ↦{fullShare} f) ∗ (∃ f, wM.view.loc (c : Thread nD τ) ↦{fullShare} f)
            ∗ xP m c ∗ rwP m c ∗ ixP m c ∗ ewP m c ∗ (oM.view.loc (c : Thread nD τ) ↦{fullShare} outAt m c)) -∗ Q ⟨⟩)
          -∗ WP c (onRefs (cc0_body (F := F))) Q) := by
  unfold onRefs; rw [cc0_body_eq_skeleton]; unfold cc0_body_skel; rw [k0_part14_eq_skeleton]; unfold k0_part14_skel
  simp only [Prog.lift, Prog.bind_op, Prog.bind_ret, Prog.pure_eq_ret, Prog.bind_assoc, ds2, ds6, ds7, ds8]
  unfold toks creds poss slots4
  iintro ⟨#HR, #Hlev, HO, ⟨Ttp, Ttn, T0, T1, T2, T3, T4, T5, T6, T7, T8, T9, T10, T11⟩, ⟨Cb, C3, C4, C5, C9, C10, C11⟩,
    ⟨Ab, A0, A1, A2, A3, A4, A5, A6, A7, A8, A9, A10, A11⟩, ⟨W0, W1, W2, W3⟩, ⟨U0, U1, U2, U3⟩, Hg, Hw, Hx, Hrw, Hix, Hew, Ho⟩ Hk
  iapply WP_bind
  iapply (part1 m K c) $$ [HO Ttp Ttn W1 W2 W3 U1 U2 U3 Cb Ab Hx Hrw Hix]
  · isplitr; · iexact HR
    isplitr; · iexact Hlev
    iframe
  iintro ⟨HO, Zb, HF, HT, Hx, Hrw, Hix⟩
  try dsimp only
  unfold barPayF barPayT
  icases HF with ⟨F1, F2, F3⟩
  icases HT with ⟨T1', T2', T3'⟩
  iapply WP_bind
  iapply (part2 m c)
  try dsimp only
  iapply WP_bind
  iapply (part3 m c) $$ [Hg Hw Hew Hx]
  · iframe
  iintro ⟨Hg, Hw, Hew, Hx⟩
  try dsimp only
  iapply WP_bind
  iapply (part4 m K c) $$ [HO T0 T3 W0 T1' Hw Hx]
  · isplitr; · iexact HR
    iframe
  iintro ⟨HO, C0, Hw, Hx⟩
  try dsimp only
  iapply WP_bind
  iapply (part5 m c) $$ [Hg Hw]
  · iframe
  iintro ⟨Hg, Hw⟩
  try dsimp only
  iapply WP_bind
  iapply (part6 m K c) $$ [HO T6 T9 U0 F1 Hg Hw Hx]
  · isplitr; · iexact HR
    iframe
  iintro ⟨HO, C6, Hg, Hw, Hx⟩
  try dsimp only
  iapply WP_bind
  iapply (part7 m K c) $$ [HO C3 A3 Hw]
  · isplitr; · iexact HR
    isplitr; · iexact Hlev
    iframe
  iintro ⟨HO, Z3, W1, Hw⟩
  try dsimp only
  iapply WP_bind
  iapply (part8 m K c) $$ [HO W1 T2' T1 T4 C9 A9]
  · isplitr; · iexact HR
    isplitr; · iexact Hlev
    iframe
  iintro ⟨HO, C1, Z9, U1⟩
  try dsimp only
  iapply WP_bind
  iapply (part9 m K c) $$ [HO U1 F2 T7 T10 C4 A4]
  · isplitr; · iexact HR
    isplitr; · iexact Hlev
    iframe
  iintro ⟨HO, C7, Z4, W2⟩
  try dsimp only
  iapply WP_bind
  iapply (part10 m K c) $$ [HO W2 T3' T2 T5 C10 A10]
  · isplitr; · iexact HR
    isplitr; · iexact Hlev
    iframe
  iintro ⟨HO, C2, Z10, U2⟩
  try dsimp only
  iapply WP_bind
  iapply (part11 m K c) $$ [HO U2 F3 T8 T11 Hg Hw Hx]
  · isplitr; · iexact HR
    iframe
  iintro ⟨HO, C8, Hg, Hw, Hx⟩
  try dsimp only
  iapply WP_bind
  iapply (part12 m K c) $$ [HO C5 A5 Hw Ho]
  · isplitr; · iexact HR
    isplitr; · iexact Hlev
    iframe
  iintro ⟨HO, Z5, W3, Hw, Ho⟩
  try dsimp only
  iapply WP_bind
  iapply (part13 m K c) $$ [HO C11 A11 C0 A0 C1 A1 Ho]
  · isplitr; · iexact HR
    isplitr; · iexact Hlev
    iframe
  iintro ⟨HO, Z11, U3, Z0, W0, Z1, W1, ⟨%fo, Ho⟩⟩
  try dsimp only
  iapply (wait_dma m K 2 (O := 0) (above_zero _) (dst := sk cwM 2 inb_S4x256x512_S1x256x512_2_0_0) (cred_cw _ _)) $$ [HO C2 A2]
  · iframe
    isplitr <;> iassumption
  iintro ⟨HO, Z2, W2⟩
  dsimp only [dpay]
  iapply (wait_dma m K 6 (O := 0) (above_zero _) (dst := sk ccM 0 inb_S4x256x512_S1x256x512_0_0_0) (cred_cc _ _)) $$ [HO C6 A6]
  · iframe
    isplitr <;> iassumption
  iintro ⟨HO, Z6, U0⟩
  dsimp only [dpay]
  iapply (wait_dma m K 7 (O := 0) (above_zero _) (dst := sk ccM 1 inb_S4x256x512_S1x256x512_1_0_0) (cred_cc _ _)) $$ [HO C7 A7]
  · iframe
    isplitr <;> iassumption
  iintro ⟨HO, Z7, U1⟩
  dsimp only [dpay]
  iapply (wait_dma m K 8 (O := 0) (above_zero _) (dst := sk ccM 2 inb_S4x256x512_S1x256x512_2_0_0) (cred_cc _ _)) $$ [HO C8 A8]
  · iframe
    isplitr <;> iassumption
  iintro ⟨HO, Z8, U2⟩
  dsimp only [dpay]
  iapply WP_ret
  iapply Hk
  unfold zeros
  ihave Ho' := (Entails.of_eq (congrArg (fun f => (oM.view.loc (c : Thread nD τ) ↦{fullShare} f : sProp 𝕄)) (out_eq m c fo))) $$ Ho
  ihave W0' := (slot_forget cwM 0 _ c _) $$ W0
  ihave W1' := (slot_forget cwM 1 _ c _) $$ W1
  ihave W2' := (slot_forget cwM 2 _ c _) $$ W2
  ihave W3' := (slot_forget cwM 3 _ c _) $$ W3
  ihave U0' := (slot_forget ccM 0 _ c _) $$ U0
  ihave U1' := (slot_forget ccM 1 _ c _) $$ U1
  ihave U2' := (slot_forget ccM 2 _ c _) $$ U2
  ihave U3' := (slot_forget ccM 3 _ c _) $$ U3
  iframe
  isplitl [Hg]
  · iexists _; iexact Hg
  iexists _; iexact Hw

end Cert.MoeRing

end
-- ==== Proof.Ghost.lean ====
/-
# The exchange's ghost state

The rights and positions of every device, dealt at launch and carried around the ring to the device that uses them.
-/
module

public import proofs.«01_k».proof.Proof.Body

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the rights of the launch -/

theorem csem_injective : Function.Injective csem := by
  intro a b h
  match a, b, h with
  | none, none, _ => rfl
  | none, some _, h => cases h
  | some _, none, h => cases h
  | some i, some j, h => exact congrArg some (dsem_inj (SemLoc.dma.inj h))
theorem kcell_injective : Function.Injective kcell := fun a b h =>
  Prod.ext (Fin.ext (congrArg (fun g : GSem nD τ sig => g.1.1.val) h)) (csem_injective (congrArg Prod.snd h))
/-- Every cell of the exchange. -/
def allCells : Finset (GSem nD τ sig) := Finset.univ.map ⟨kcell, kcell_injective⟩

/-- The rights at a device's own cells: two at its barrier, one at each DMA semaphore. -/
abbrev rightOf (x : Dev nD × Option (Option (Fin 12))) : GSem nD τ sig × ℕ × Bool := match x.2 with
  | none => (barCell x.1, 0, true)
  | some k => (kcell (x.1, k), 0, false)
theorem rightOf_injective : Function.Injective rightOf := by
  rintro ⟨c, k⟩ ⟨c', k'⟩ h
  match k, k', h with
  | none, none, h => exact congrArg (fun d => (d, none)) (bar_eq_iff.mp (congrArg Prod.fst h))
  | none, some _, h => exact absurd (congrArg (fun y : GSem nD τ sig × ℕ × Bool => y.2.2) h) (fun e => by cases e)
  | some _, none, h => exact absurd (congrArg (fun y : GSem nD τ sig × ℕ × Bool => y.2.2) h) (fun e => by cases e)
  | some k, some k', h =>
    have := kcell_injective (congrArg Prod.fst h)
    exact congrArg (fun y : Dev nD × Option (Fin 12) => (y.1, some y.2)) this
/-- Every right of the exchange. -/
def allRights : Finset (GSem nD τ sig × ℕ × Bool) := Finset.univ.map ⟨rightOf, rightOf_injective⟩

theorem bigSep_keys (Φ : Option (Fin 12) → sProp 𝕄) : bigSep Finset.univ Φ = iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9) ∗ Φ (some 10) ∗ Φ (some 11)) :=
  bigSep_univ_eq_bigSepL [none, some 0, some 1, some 2, some 3, some 4, some 5, some 6, some 7, some 8, some 9, some 10, some 11] (by decide) (by decide) Φ
theorem bigSep_rights (Φ : Option (Option (Fin 12)) → sProp 𝕄) : bigSep Finset.univ Φ = iprop(Φ none ∗ Φ (some none) ∗ Φ (some (some 0)) ∗ Φ (some (some 1)) ∗ Φ (some (some 2)) ∗ Φ (some (some 3)) ∗ Φ (some (some 4)) ∗ Φ (some (some 5)) ∗ Φ (some (some 6)) ∗ Φ (some (some 7)) ∗ Φ (some (some 8)) ∗ Φ (some (some 9)) ∗ Φ (some (some 10)) ∗ Φ (some (some 11))) :=
  bigSep_univ_eq_bigSepL [none, some none, some (some 0), some (some 1), some (some 2), some (some 3), some (some 4), some (some 5), some (some 6), some (some 7), some (some 8), some (some 9), some (some 10), some (some 11)] (by decide) (by decide) Φ

/-- The launch's ghost element: the pipeline's and the exchange's. -/
def u₀ : UU := (initOf (Pipeline.cells cfgs cellOf_inj) (Pipeline.launchToks cfgs cellOf_inj), initOf allCells allRights)

/-- The rights at device `c`'s own cells. -/
def minted (c : Dev nD) : sProp 𝕄 :=
  iprop(dutyTok ER (barCell c) 0 true ∗ dutyTok ER (barCell c) 0 false ∗ dutyTok ER (dcell 0 c) 0 false ∗ dutyTok ER (dcell 1 c) 0 false ∗ dutyTok ER (dcell 2 c) 0 false ∗ dutyTok ER (dcell 3 c) 0 false ∗ dutyTok ER (dcell 4 c) 0 false ∗ dutyTok ER (dcell 5 c) 0 false ∗ dutyTok ER (dcell 6 c) 0 false ∗ dutyTok ER (dcell 7 c) 0 false ∗ dutyTok ER (dcell 8 c) 0 false ∗ dutyTok ER (dcell 9 c) 0 false ∗ dutyTok ER (dcell 10 c) 0 false ∗ dutyTok ER (dcell 11 c) 0 false)

/-- What the launch's element deals device `c`. -/
def G (c : Dev nD) : sProp 𝕄 :=
  iprop((bigSep Finset.univ fun k : Option (Fin 12) => roundState ER (sched m) (kcell (c, k)) 0)
    ∗ (bigSep Finset.univ fun k : Option (Fin 12) => iprop(atPos ER (kcell (c, k)) 0 ∅ 0 ∗ reached ER (kcell (c, k)) 0)) ∗ minted c)
/-- What device `c` starts with once the cells' invariants stand. -/
def G' (c : Dev nD) : sProp 𝕄 := iprop(∃ K, records m K ∗ poss c ∗ toks c)

/-- The exchange's element funds every device. -/
theorem fund_all : BI.own (ER (initOf allCells allRights)) ⊢ (|==> bigSep Finset.univ (G m) : sProp 𝕄) := by
  have hX (Φ : GSem nD τ sig → sProp 𝕄) : bigSep allCells Φ = bigSep Finset.univ fun c : Dev nD => bigSep Finset.univ fun k : Option (Fin 12) => Φ (kcell (c, k)) := by
    unfold allCells; rw [bigSep_map, bigSep_univ_prod]; rfl
  have hT : bigSep allRights (fun x => (dutyTok ER x.1 x.2.1 x.2.2 : sProp 𝕄)) = bigSep Finset.univ fun c : Dev nD => minted c := by
    unfold allRights; rw [bigSep_map, bigSep_univ_prod]
    exact bigSep_congr fun c _ => by unfold minted; rw [bigSep_rights]; rfl
  iintro HX
  imod (Rounds.fund ER (sched m) allCells allRights) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

/-! ## The semaphores -/

theorem ownSems0_eq (c : Dev nD) : (Pipeline.ownSems0 (Ix := Unit) (Name := ℕ) (U := UU) (Lvl := ℕ) (Val := Elt F) (τ := τ) osem c : sProp 𝕄)
    = iprop(semVal (dcell 0 c) 0 ∗ semVal (dcell 1 c) 0 ∗ semVal (dcell 2 c) 0 ∗ semVal (dcell 3 c) 0 ∗ semVal (dcell 4 c) 0 ∗ semVal (dcell 5 c) 0 ∗ semVal (dcell 6 c) 0 ∗ semVal (dcell 7 c) 0 ∗ semVal (dcell 8 c) 0 ∗ semVal (dcell 9 c) 0 ∗ semVal (dcell 10 c) 0 ∗ semVal (dcell 11 c) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 12) => semVal (kcell (c, k)) 0 : sProp 𝕄) := by
  rw [ownSems0_eq, unscopedSems0_eq, bigSep_keys]
  iintro ⟨Ho, Hb⟩
  isplitl [Hb]; · iexact Hb
  iexact Ho

/-! ## The invariants, and every device's start -/

/-- Device `c`'s cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (sems0_eq (F := F) c) $$ [Hos Hus]
  · iframe
  imod (show iprop((bigSep Finset.univ fun k : Option (Fin 12) => semVal (kcell (c, k)) 0) ∗ bigSep Finset.univ fun k : Option (Fin 12) => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · iframe
  imodintro
  iframe

/-- Each right goes to the device that uses it. -/
theorem rights_around : (bigSep Finset.univ fun c : Dev nD => (minted c : sProp 𝕄)) ⊢ bigSep Finset.univ fun c : Dev nD => toks c := by
  unfold minted toks
  simp only [bigSep_sep']
  rw [bigSep_univ_equiv ring.symm (fun c : Dev nD => (dutyTok ER (barCell c) 0 true : sProp 𝕄)),
    bigSep_univ_equiv ring (fun c : Dev nD => (dutyTok ER (dcell 3 c) 0 false : sProp 𝕄)),
    bigSep_univ_equiv ring (fun c : Dev nD => (dutyTok ER (dcell 4 c) 0 false : sProp 𝕄)),
    bigSep_univ_equiv ring (fun c : Dev nD => (dutyTok ER (dcell 5 c) 0 false : sProp 𝕄)),
    bigSep_univ_equiv ring.symm (fun c : Dev nD => (dutyTok ER (dcell 9 c) 0 false : sProp 𝕄)),
    bigSep_univ_equiv ring.symm (fun c : Dev nD => (dutyTok ER (dcell 10 c) 0 false : sProp 𝕄)),
    bigSep_univ_equiv ring.symm (fun c : Dev nD => (dutyTok ER (dcell 11 c) 0 false : sProp 𝕄)),
    bigSep_univ_equiv ring (fun c : Dev nD => (dutyTok ER (barCell c) 0 false : sProp 𝕄))]
  exact Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_all : (bigSep Finset.univ fun c : Dev nD => bigSep Finset.univ fun k : Option (Fin 12) => (atPos ER (kcell (c, k)) 0 ∅ 0 : sProp 𝕄))
    ⊢ bigSep Finset.univ fun c : Dev nD => poss c :=
  bigSep_mono fun c _ => by unfold poss; rw [bigSep_keys]; exact Entails.refl _

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ minted c) : sProp 𝕄)
      ⊢ bigSep Finset.univ (G' m) := by
  rw [bigSep_sep', bigSep_sep', ← bigSep_univ_prod (fun ck : Dev nD × Option (Fin 12) => iprop(∃ κ : ℕ, cellInv ER (sched m) κ (kcell ck))),
    bigSep_congr (s := Finset.univ) (fun (c : Dev nD) _ => bigSep_sep' Finset.univ (fun k : Option (Fin 12) => (atPos ER (kcell (c, k)) 0 ∅ 0 : sProp 𝕄)) (fun k => reached ER (kcell (c, k)) 0)),
    bigSep_sep', ← bigSep_univ_prod (fun ck : Dev nD × Option (Fin 12) => (reached ER (kcell ck) 0 : sProp 𝕄))]
  iintro ⟨HI, ⟨Hat, #HR⟩, Htok⟩
  ihave HK := (BI.bigSep_exists_pi Finset.univ (fun (ck : Dev nD × Option (Fin 12)) (κ : ℕ) => (cellInv ER (sched m) κ (kcell ck) : sProp 𝕄))) $$ HI
  icases HK with ⟨%K, #HI⟩
  ihave Htk := (rights_around (F := F)) $$ Htok
  iapply (bigSep_with_persistent (R := records m K) (Φ := fun c : Dev nD => iprop(poss c ∗ toks c)) fun c _ => show _ ⊢ G' m c from by
    unfold G'; iintro H; iexists K; iexact H)
  isplitr
  · unfold records
    isplitl <;> iassumption
  rw [bigSep_sep']
  isplitl [Hat]
  · iapply (poss_all (F := F)); iexact Hat
  iexact Htk

/-- All devices at once: semaphores and dealt state become every device's start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.MoeRing

end
-- ==== Proof.Launch.lean ====
/-
# The launch

The four devices' runs together: what each starts from, and that the whole run ends with every array at its final contents.
-/
module

public import proofs.«01_k».proof.Proof.Ghost
public import Idealize.ShloMosaic.Lib.Pipeline.CollectiveSegs

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The launch's start: memory `m`, every counter at zero. -/
abbrev s₀ : MemSt nD τ sig (Elt F) := ⟨m, fun _ => 0, ρ⟩

/-! ## What each point of the pipeline holds -/

/-- Everything the body starts from but its buffers: the ring's state, the waiting rights, the levels. -/
def start (c : Dev nD) : sProp 𝕄 := iprop(G' m c ∗ creds c ∗ levAts L lv)
/-- The four scratch buffers. -/
def scratch (c : Dev nD) : sProp 𝕄 := iprop((∃ f, gM.view.loc (c : Thread nD τ) ↦{fullShare} f) ∗ (∃ f, wM.view.loc (c : Thread nD τ) ↦{fullShare} f) ∗ (∃ f, cwM.view.loc (c : Thread nD τ) ↦{fullShare} f) ∗ (∃ f, ccM.view.loc (c : Thread nD τ) ↦{fullShare} f))
def Φ₀ (c : Dev nD) : sProp 𝕄 := iprop(start m c ∗ scratch c)
def Φ₁ (c : Dev nD) : sProp 𝕄 := iprop(zeros c ∗ scratch c)

/-- The pipeline's data on device `c`: the arguments staged in, the result's block staged out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => rwA m c
    | ⟨2, _⟩ => ixA m c
    | ⟨3, _⟩ => ewA m c
    | ⟨4, _⟩ => outAt m c
  Φ t := match t with
    | ⟨0, _⟩ => Φ₀ m c
    | ⟨_ + 1, _⟩ => Φ₁ c
  q _ := fullShare
  owed t := match t with
    | ⟨0, _⟩ => Q0 c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_win (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Device `c`'s staging buffer `b`, at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_0 (c : Dev nD) (d) : (dats m ρ 0 c).before (0 : Fin 5) t₀ d = xA m c := by
  unfold Dat.before; rw [if_pos (fetch0_0 t₀)]; rfl
theorem before_1 (c : Dev nD) (d) : (dats m ρ 0 c).before (1 : Fin 5) t₀ d = rwA m c := by
  unfold Dat.before; rw [if_pos (fetch0_1 t₀)]; rfl
theorem before_2 (c : Dev nD) (d) : (dats m ρ 0 c).before (2 : Fin 5) t₀ d = ixA m c := by
  unfold Dat.before; rw [if_pos (fetch0_2 t₀)]; rfl
theorem before_3 (c : Dev nD) (d) : (dats m ρ 0 c).before (3 : Fin 5) t₀ d = ewA m c := by
  unfold Dat.before; rw [if_pos (fetch0_3 t₀)]; rfl

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
set_option maxRecDepth 4000 in
def bodyPost (c : Dev nD) : sProp 𝕄 :=
  iprop(Φ₁ c ∗ (dats m ρ 0 c).owesAt () t₀.succ ∗ stg c cc0_stg0_0 (xA m c) ∗ stg c cc0_stg1_0 (rwA m c) ∗ stg c cc0_stg2_0 (ixA m c)
    ∗ stg c cc0_stg3_0 (ewA m c) ∗ stg c cc0_stg4_0 (outAt m c))

theorem owes_in (c : Dev nD) : (dats m ρ 0 c).owesAt () t₀.castSucc ⊢ (owing c (Q0 c) : sProp 𝕄) := by
  unfold Dat.owesAt Pipeline.owesWithin owing
  rw [show (dats m ρ 0 c).owed t₀.castSucc = Q0 c from rfl]
  iintro ⟨%W, -, H⟩; iexists W; iexact H
theorem owes_out (c : Dev nD) : (owing c 0 : sProp 𝕄) ⊢ (dats m ρ 0 c).owesAt () t₀.succ := by
  unfold Dat.owesAt Pipeline.owesWithin owing
  rw [show (dats m ρ 0 c).owed t₀.succ = 0 from rfl]
  iintro ⟨%W, H⟩; iexists W
  isplitr
  · ipureintro; exact fun _ _ => Or.inl trivial
  iexact H

set_option maxRecDepth 4000 in
/-- The body runs from what the pipeline hands it to what the pipeline takes back. -/
theorem body_sound (c : Dev nD) : bodyPre m ρ c ⊢ WP c (onRefs (cc0_body (F := F))) (fun _ => bodyPost m ρ c) := by
  unfold bodyPre Φ₀ start scratch G'
  iintro ⟨⟨⟨⟨%K, #HR, Hpos, Htok⟩, Hcr, #Hlev⟩, Hg, Hw, Hcw, Hcc⟩, Ho, ⟨%d0, %f0, %h0, Hx⟩, ⟨%d1, %f1, %h1, Hrw⟩, ⟨%d2, %f2, %h2, Hix⟩, ⟨%d3, %f3, %h3, Hew⟩, ⟨%d4, %f4, -, Hout⟩⟩
  rw [before_0] at h0; rw [before_1] at h1; rw [before_2] at h2; rw [before_3] at h3
  subst h0; subst h1; subst h2; subst h3
  ihave HO := (owes_in m ρ c) $$ Ho
  ihave Hcw' := (slots_split cwM cover_cw c) $$ Hcw
  ihave Hcc' := (slots_split ccM cover_cc c) $$ Hcc
  iapply (body_run m K c) $$ [HO Htok Hcr Hpos Hcw' Hcc' Hg Hw Hx Hrw Hix Hew Hout]
  · isplitr; · iexact HR
    isplitr; · iexact Hlev
    isplitl [HO]; · iexact HO
    isplitl [Htok]; · iexact Htok
    isplitl [Hcr]; · iexact Hcr
    isplitl [Hpos]; · iexact Hpos
    isplitl [Hcw']; · iexact Hcw'
    isplitl [Hcc']; · iexact Hcc'
    isplitl [Hg]; · iexact Hg
    isplitl [Hw]; · iexact Hw
    isplitl [Hx]; · iexact Hx
    isplitl [Hrw]; · iexact Hrw
    isplitl [Hix]; · iexact Hix
    isplitl [Hew]; · iexact Hew
    iexists f4; iexact Hout
  iintro ⟨HO, Hz, Hcw, Hcc, Hg, Hw, Hx, Hrw, Hix, Hew, Hout⟩
  ihave Hcw' := (slots_join cwM cover_cw c) $$ Hcw
  ihave Hcc' := (slots_join ccM cover_cc c) $$ Hcc
  ihave Ho := (owes_out m ρ c) $$ HO
  unfold bodyPost Φ₁ scratch
  isplitl [Hz Hg Hw Hcw' Hcc']
  · iframe
  isplitl [Ho]; · iexact Ho
  isplitl [Hx]
  · iexists _; isplitr; · (ipureintro; rfl)
    iexact Hx
  isplitl [Hrw]
  · iexists _; isplitr; · (ipureintro; rfl)
    iexact Hrw
  isplitl [Hix]
  · iexists _; isplitr; · (ipureintro; rfl)
    iexact Hix
  isplitl [Hew]
  · iexists _; isplitr; · (ipureintro; rfl)
    iexact Hew
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N t, bigSep_win, bigSep_win]
  simp only [owns_whole]
  exact body_sound m ρ c

/-! ## The waiting rights of the launch -/

theorem eq_nxt {d c : Dev nD} : (c = nxt d) = (d = prv c) := propext ⟨fun h => by rw [h, prv_nxt], fun h => by rw [h, nxt_prv]⟩
theorem eq_prv {d c : Dev nD} : (c = prv d) = (d = nxt c) := propext ⟨fun h => by rw [h, nxt_prv], fun h => by rw [h, prv_nxt]⟩

/-- What device `d` owes cell `g` at the start. -/
theorem owed_eq (d : Dev nD) (g : GSem nD τ sig) : Q0 d g () = 0 + (if g = dcell 11 (prv d) then N else 0) + (if g = dcell 5 (nxt d) then N else 0) + (if g = dcell 10 (prv d) then N else 0) + (if g = dcell 4 (nxt d) then N else 0) + (if g = dcell 9 (prv d) then N else 0) + (if g = dcell 3 (nxt d) then N else 0) + (if g = barCell (nxt d) then 1 else 0) + (if g = barCell (prv d) then 1 else 0) := by
  unfold Q0 Q1 P1 P2 P3 P4 P5 P6
  simp only [Pi.add_apply, Finsupp.add_apply, Pi.zero_apply, Finsupp.zero_apply, tallyAt_apply, and_true]

theorem owed_bar (d c : Dev nD) : Q0 d (barCell c) () = (if d = prv c then 1 else 0) + (if d = nxt c then 1 else 0) := by
  rw [owed_eq]
  simp only [bar_ne_dcell, bar_eq_iff, if_false, Nat.zero_add, Nat.add_zero, eq_nxt (d := d) (c := c), eq_prv (d := d) (c := c)]
theorem launch_bar (c : Dev nD) :
    tallyOn (barCell c) (launchCredit (Pipeline.owing Q0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem owed_3 (d c : Dev nD) : Q0 d (dcell 3 c) () = if d = prv c then N else 0 := by
  rw [owed_eq]
  simp only [dcell_eq_iff, dcell_ne_bar, if_false, Nat.zero_add, Nat.add_zero, show ((3 : Fin 12) = 3) = True from by decide, show ((3 : Fin 12) = 4) = False from by decide, show ((3 : Fin 12) = 5) = False from by decide, show ((3 : Fin 12) = 9) = False from by decide, show ((3 : Fin 12) = 10) = False from by decide, show ((3 : Fin 12) = 11) = False from by decide, false_and, true_and, eq_nxt]
theorem launch_3 (c : Dev nD) :
    tallyOn (dcell 3 c) (launchCredit (Pipeline.owing Q0) 0 (dcell 3 c)) = (tallyAt (dcell 3 c) () N : CellTallies nD τ sig Unit) := by
  unfold tallyAt; refine congrArg _ (Finsupp.ext fun u => ?_); cases u
  rw [Pipeline.launchCredit_owing, Finsupp.single_eq_same, Finset.sum_congr rfl fun d _ => owed_3 d c, Finset.sum_ite_eq' Finset.univ (prv c) fun _ => N,
    if_pos (Finset.mem_univ _)]
theorem owed_4 (d c : Dev nD) : Q0 d (dcell 4 c) () = if d = prv c then N else 0 := by
  rw [owed_eq]
  simp only [dcell_eq_iff, dcell_ne_bar, if_false, Nat.zero_add, Nat.add_zero, show ((4 : Fin 12) = 3) = False from by decide, show ((4 : Fin 12) = 4) = True from by decide, show ((4 : Fin 12) = 5) = False from by decide, show ((4 : Fin 12) = 9) = False from by decide, show ((4 : Fin 12) = 10) = False from by decide, show ((4 : Fin 12) = 11) = False from by decide, false_and, true_and, eq_nxt]
theorem launch_4 (c : Dev nD) :
    tallyOn (dcell 4 c) (launchCredit (Pipeline.owing Q0) 0 (dcell 4 c)) = (tallyAt (dcell 4 c) () N : CellTallies nD τ sig Unit) := by
  unfold tallyAt; refine congrArg _ (Finsupp.ext fun u => ?_); cases u
  rw [Pipeline.launchCredit_owing, Finsupp.single_eq_same, Finset.sum_congr rfl fun d _ => owed_4 d c, Finset.sum_ite_eq' Finset.univ (prv c) fun _ => N,
    if_pos (Finset.mem_univ _)]
theorem owed_5 (d c : Dev nD) : Q0 d (dcell 5 c) () = if d = prv c then N else 0 := by
  rw [owed_eq]
  simp only [dcell_eq_iff, dcell_ne_bar, if_false, Nat.zero_add, Nat.add_zero, show ((5 : Fin 12) = 3) = False from by decide, show ((5 : Fin 12) = 4) = False from by decide, show ((5 : Fin 12) = 5) = True from by decide, show ((5 : Fin 12) = 9) = False from by decide, show ((5 : Fin 12) = 10) = False from by decide, show ((5 : Fin 12) = 11) = False from by decide, false_and, true_and, eq_nxt]
theorem launch_5 (c : Dev nD) :
    tallyOn (dcell 5 c) (launchCredit (Pipeline.owing Q0) 0 (dcell 5 c)) = (tallyAt (dcell 5 c) () N : CellTallies nD τ sig Unit) := by
  unfold tallyAt; refine congrArg _ (Finsupp.ext fun u => ?_); cases u
  rw [Pipeline.launchCredit_owing, Finsupp.single_eq_same, Finset.sum_congr rfl fun d _ => owed_5 d c, Finset.sum_ite_eq' Finset.univ (prv c) fun _ => N,
    if_pos (Finset.mem_univ _)]
theorem owed_9 (d c : Dev nD) : Q0 d (dcell 9 c) () = if d = nxt c then N else 0 := by
  rw [owed_eq]
  simp only [dcell_eq_iff, dcell_ne_bar, if_false, Nat.zero_add, Nat.add_zero, show ((9 : Fin 12) = 3) = False from by decide, show ((9 : Fin 12) = 4) = False from by decide, show ((9 : Fin 12) = 5) = False from by decide, show ((9 : Fin 12) = 9) = True from by decide, show ((9 : Fin 12) = 10) = False from by decide, show ((9 : Fin 12) = 11) = False from by decide, false_and, true_and, eq_prv]
theorem launch_9 (c : Dev nD) :
    tallyOn (dcell 9 c) (launchCredit (Pipeline.owing Q0) 0 (dcell 9 c)) = (tallyAt (dcell 9 c) () N : CellTallies nD τ sig Unit) := by
  unfold tallyAt; refine congrArg _ (Finsupp.ext fun u => ?_); cases u
  rw [Pipeline.launchCredit_owing, Finsupp.single_eq_same, Finset.sum_congr rfl fun d _ => owed_9 d c, Finset.sum_ite_eq' Finset.univ (nxt c) fun _ => N,
    if_pos (Finset.mem_univ _)]
theorem owed_10 (d c : Dev nD) : Q0 d (dcell 10 c) () = if d = nxt c then N else 0 := by
  rw [owed_eq]
  simp only [dcell_eq_iff, dcell_ne_bar, if_false, Nat.zero_add, Nat.add_zero, show ((10 : Fin 12) = 3) = False from by decide, show ((10 : Fin 12) = 4) = False from by decide, show ((10 : Fin 12) = 5) = False from by decide, show ((10 : Fin 12) = 9) = False from by decide, show ((10 : Fin 12) = 10) = True from by decide, show ((10 : Fin 12) = 11) = False from by decide, false_and, true_and, eq_prv]
theorem launch_10 (c : Dev nD) :
    tallyOn (dcell 10 c) (launchCredit (Pipeline.owing Q0) 0 (dcell 10 c)) = (tallyAt (dcell 10 c) () N : CellTallies nD τ sig Unit) := by
  unfold tallyAt; refine congrArg _ (Finsupp.ext fun u => ?_); cases u
  rw [Pipeline.launchCredit_owing, Finsupp.single_eq_same, Finset.sum_congr rfl fun d _ => owed_10 d c, Finset.sum_ite_eq' Finset.univ (nxt c) fun _ => N,
    if_pos (Finset.mem_univ _)]
theorem owed_11 (d c : Dev nD) : Q0 d (dcell 11 c) () = if d = nxt c then N else 0 := by
  rw [owed_eq]
  simp only [dcell_eq_iff, dcell_ne_bar, if_false, Nat.zero_add, Nat.add_zero, show ((11 : Fin 12) = 3) = False from by decide, show ((11 : Fin 12) = 4) = False from by decide, show ((11 : Fin 12) = 5) = False from by decide, show ((11 : Fin 12) = 9) = False from by decide, show ((11 : Fin 12) = 10) = False from by decide, show ((11 : Fin 12) = 11) = True from by decide, false_and, true_and, eq_prv]
theorem launch_11 (c : Dev nD) :
    tallyOn (dcell 11 c) (launchCredit (Pipeline.owing Q0) 0 (dcell 11 c)) = (tallyAt (dcell 11 c) () N : CellTallies nD τ sig Unit) := by
  unfold tallyAt; refine congrArg _ (Finsupp.ext fun u => ?_); cases u
  rw [Pipeline.launchCredit_owing, Finsupp.single_eq_same, Finset.sum_congr rfl fun d _ => owed_11 d c, Finset.sum_ite_eq' Finset.univ (nxt c) fun _ => N,
    if_pos (Finset.mem_univ _)]

/-- The semaphores with something owed to them. -/
abbrev credSem : Fin 7 → SemLoc sig := fun | 0 => .reg barS | 1 => .dma (dsem 3) | 2 => .dma (dsem 4) | 3 => .dma (dsem 5) | 4 => .dma (dsem 9) | 5 => .dma (dsem 10) | 6 => .dma (dsem 11)
theorem credSem_injective : Function.Injective credSem := by decide

theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem creds_intro (c : Dev nD) : (Pipeline.launchCred Q0 c : sProp 𝕄) ⊢ creds c := by
  unfold Pipeline.launchCred creds
  refine (bigSep_subset (Finset.subset_univ (Finset.univ.map ⟨credSem, credSem_injective⟩))).trans ?_
  rw [bigSep_map, bigSep_seven, ← launch_bar, ← launch_3, ← launch_4, ← launch_5, ← launch_9, ← launch_10, ← launch_11]
  exact Entails.refl _

/-! ## The launch -/

theorem ownSemFacts : Pipeline.OwnSemFacts cfg0.spec osem := by decide
theorem share_eq (c : Dev nD) (w : Fin cfg0.W) : (dats (F := F) m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred Q0 c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros scratch
  iintro ⟨⟨Hb, Hz⟩, Hr⟩
  isplitl [Hb]; · iexact Hb
  isplitl [Hz]; · iexact Hz
  iexact Hr

theorem mayWait_stage (c : Dev nD) (q : DmaSem sig) (hq : lvS (.dma q) = 0) (O : CellTallies nD τ sig Unit) (hO : O = Q0 c ∨ O = 0) :
    (levAts L lv : sProp 𝕄) ⊢ MayWait (c : Thread nD τ) (.dma q) () O := by
  rcases hO with rfl | rfl
  · exact mayWait c _ (by rw [hq]; exact above_Q0 c)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end on device `c`. -/
def finalA (c : Dev nD) (w : Fin cfg0.W) : Buf (Elt F) ((cfg0.win w).arr.view.loc (c : Thread nD τ)) := (dats m ρ 0 c).arrAt w cfg0.N

/-- Every window's array at its final contents, on every device. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The four devices run to the end, every array at its final contents and every counter back at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := Q0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four arguments' arrays are never written. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.MoeRing

end
-- ==== Proof.Frames.lean ====
/-
# Every program runs, and leaves its arguments as they were

The kernel, the kernel read over the extended reals and the reference each end with the arguments unchanged and every
semaphore counter back at zero.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem args_kept {ρ : Dev nD → PrngReg} {r : PUnit × MemSt nD τ sig (Elt F)} (h : Final m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h c (0 : Fin 5)).trans (finalA_in m ρ c _ rfl), (h c (1 : Fin 5)).trans (finalA_in m ρ c _ rfl),
    (h c (2 : Fin 5)).trans (finalA_in m ρ c _ rfl), (h c (3 : Fin 5)).trans (finalA_in m ρ c _ rfl)⟩

/-- The kernel over the extended reals. -/
theorem frame_ideal : Cert.quiescent_KernelIdeal (hKernelIdeal := Cert.KernelIdeal.Gen.facts) := fun m ρ _ =>
  (θ_run Cert.KernelIdeal.defs _ _).mono (fun _ h => ⟨args_kept m h.1, h.2⟩) (run_main (F := Ideal) m ρ)

/-- The two printed programs of the kernel have the same region. -/
theorem region_same [Cert.Kernel.Facts] [Cert.KernelIdeal.Facts] :
    @Cert.Kernel.defs₀ F _ _ = @Cert.KernelIdeal.defs₀ F _ _ := by
  unfold Cert.Kernel.defs₀ Cert.KernelIdeal.defs₀
  apply congrArg
  funext l a
  obtain ⟨l, hl⟩ := l
  rcases l with _ | n
  · obtain ⟨t, s⟩ := a
    rfl
  · exact absurd hl (Nat.not_lt.2 (Nat.le_add_left _ _))

/-- So they have the same table of bodies. -/
theorem table_same [Cert.Kernel.Facts] [Cert.KernelIdeal.Facts] :
    @Cert.Kernel.defs F _ _ = @Cert.KernelIdeal.defs F _ _ :=
  congrArg (Pipeline.defs (Cert.KernelIdeal.pcfgs (F := F))) region_same

/-- The kernel over bit patterns: the same program. -/
theorem frame_bits : Cert.quiescent_Kernel (hKernel := Cert.Kernel.Gen.facts) := by
  intro m ρ _
  rw [table_same]
  exact (θ_run Cert.KernelIdeal.defs (onTc Cert.KernelIdeal.main) (s₀ m ρ)).mono (fun _ h => ⟨args_kept m h.1, h.2⟩) (run_main (F := Bits) m ρ)

/-- The reference: a straight line of array operations. -/
theorem frame_reference : Cert.quiescent_ReferenceIdeal (hReferenceIdeal := Cert.ReferenceIdeal.Gen.facts) := fun m ρ _ =>
  (θ_run Cert.ReferenceIdeal.defs _ _).mono (fun _ h => ⟨fun c => (h c).2, funext fun x => nomatch x.2⟩) (Cert.ReferenceIdeal.Value.run (F := Ideal) m ρ)

end Cert.MoeRing

end
-- ==== Proof.Arrays.lean ====
/-
# The arrays

The blocks the kernel reads and writes are its arguments and its result.
-/
module

public import proofs.«01_k».proof.Proof.Launch

@[expose] public section

noncomputable section

namespace Cert.MoeRing

open Cert.KernelIdeal Cert.KernelIdeal.Gen
open Idealize.ShloMosaic
open Idealize.ShloMosaic.TcCoe
open Idealize.SL.Sem
open scoped BigOperators

variable (m : (ℓ : Loc nD τ sig) → Buf (Elt Ideal) ℓ) (c : Dev nD)

/-- Each argument's one block is the whole argument. -/
theorem xA_eq : xA m c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem rwA_eq : rwA m c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _
theorem ixA_eq : ixA m c = m ((c : Thread nD τ).loc main_arg2) := by
  have hz : (fun a => (win0_2.index (0 : Fin 1)) a * main_arg2.ty.shape.size a) = fun _ => 0 :=
    funext fun a => by fin_cases a <;> decide
  exact Memref.read_access_unit_zero (Elt Ideal) main_arg2 hz (fun a => by fin_cases a <;> decide) _
theorem ewA_eq : ewA m c = m ((c : Thread nD τ).loc main_arg3) := by
  have hz : (fun a => (win0_3.index (0 : Fin 1)) a * main_arg3.ty.shape.size a) = fun _ => 0 :=
    funext fun a => by fin_cases a <;> decide
  exact Memref.read_access_unit_zero (Elt Ideal) main_arg3 hz (fun a => by fin_cases a <;> decide) _

/-- What the launch leaves in the result's array is what the last stores left in its block. -/
theorem result_eq (ρ : Dev nD → PrngReg) : finalA m ρ c (4 : Fin 5) = outAt m c := by
  have ho : (win0_4.blk (0 : Fin 1)).view.read (Elt Ideal) (finalA m ρ c (4 : Fin 5)) = outAt m c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hz : (fun a => (win0_4.index (0 : Fin 1)) a * main_v1.ty.shape.size a) = fun _ => 0 :=
    funext fun a => by fin_cases a <;> decide
  exact (Memref.read_access_unit_zero (Elt Ideal) main_v1 hz (fun a => by fin_cases a <;> decide) _).symm.trans ho

end Cert.MoeRing

end
-- ==== Proof.Share.lean ====
/-
# One block of rows

What one device adds to one block of rows, entry by entry, and what each transfer carries.
-/
module

public import proofs.«01_k».proof.Proof.Cells
public import Idealize.ShloMosaic.Lib.Pointwise

@[expose] public section

noncomputable section

namespace Cert.MoeRing

open Cert.KernelIdeal Cert.KernelIdeal.Gen
open Idealize.ShloMosaic
open Idealize.ShloMosaic.TcCoe
open Idealize.SL.Sem
open scoped BigOperators

section Block
variable (x : Vec Ideal S256x512 .bf16) (g : Vec Ideal S256x4 .f32) (u0 u1 u2 u3 : Vec Ideal S1x512x1024 .bf16)
  (p : Fin 256) (h : Fin 1024)

/-- One device's share of a block of 256 rows, at row `p` and column `h`: its four experts' products, each with the
    rows scaled by the expert's gate. -/
def share : EReal :=
  (∑ k : Fin 512, x (ix2 p k) * g (ix2 p (0 : Fin 4)) * u0 (ix3 (0 : Fin 1) k h))
    + (∑ k : Fin 512, x (ix2 p k) * g (ix2 p (1 : Fin 4)) * u1 (ix3 (0 : Fin 1) k h))
    + (∑ k : Fin 512, x (ix2 p k) * g (ix2 p (2 : Fin 4)) * u2 (ix3 (0 : Fin 1) k h))
    + (∑ k : Fin 512, x (ix2 p k) * g (ix2 p (3 : Fin 4)) * u3 (ix3 (0 : Fin 1) k h))

/-- A column of the left half, and the same column of the right half. -/
abbrev lcol (q : Fin 512) : Fin 1024 := ⟨q.val, by omega⟩
abbrev rcol (q : Fin 512) : Fin 1024 := ⟨512 + q.val, by omega⟩

/-- The block before its own. -/
theorem share_before : k0_pay15 (k0_pay12 x) g (k0_pay13 x g u0 u1) (k0_pay14 g) u2 u3 (ix2 p h) = share x g u0 u1 u2 u3 p h := by
  pointwise [k0_pay12, k0_pay13, k0_pay14, k0_pay15, share]

/-- The block after its own. -/
theorem share_after : k0_pay17 x g u0 u1 u2 u3 (ix2 p h) = share x g u0 u1 u2 u3 p h := by
  pointwise [k0_pay17, share]

/-- The block across. -/
theorem share_across : k0_pay23 (k0_pay20 x) g (k0_pay21 x g u0) (k0_pay22 x g) u1 u2 u3 (ix2 p h) = share x g u0 u1 u2 u3 p h := by
  pointwise [k0_pay20, k0_pay21, k0_pay22, k0_pay23, share]

/-- Its own block. -/
theorem share_own : k0_pay34 (k0_pay31 x) g (k0_pay32 x g u0 u1) (k0_pay33 x g) u2 u3 (ix2 p h) = share x g u0 u1 u2 u3 p h := by
  pointwise [k0_pay31, k0_pay32, k0_pay33, k0_pay34, share]

variable (q : Fin 512)

/-- What the first clockwise transfer carries. -/
theorem first_left : k0_pay16 (k0_pay12 x) g (k0_pay13 x g u0 u1) (k0_pay14 g) u2 u3 (ix3 (0 : Fin 1) p q) = share x g u0 u1 u2 u3 p (lcol q) := by
  pointwise [k0_pay12, k0_pay13, k0_pay14, k0_pay15, k0_pay16, share]

/-- What the first counter-clockwise transfer carries. -/
theorem first_right : k0_pay19 (k0_pay18 x g u0 u1 u2 u3) (ix3 (0 : Fin 1) p q) = share x g u0 u1 u2 u3 p (rcol q) := by
  pointwise [k0_pay17, k0_pay18, k0_pay19, share]

/-- The left half of the block across. -/
theorem across_left : k0_pay25 (k0_pay20 x) g (k0_pay21 x g u0) (k0_pay22 x g) u1 u2 u3 (ix2 p q) = share x g u0 u1 u2 u3 p (lcol q) := by
  pointwise [k0_pay20, k0_pay21, k0_pay22, k0_pay23, k0_pay25, share]

variable (a : Vec Ideal S1x256x512 .bf16) (b : Vec Ideal S256x512 .f32) (d : Vec Ideal S256x1024 .f32)

/-- The second clockwise transfer: what came plus the device's own. -/
theorem second_left : k0_pay26 (k0_pay24 a) b (ix3 (0 : Fin 1) p q) = a (ix3 (0 : Fin 1) p q) + b (ix2 p q) := by
  pointwise [k0_pay24, k0_pay26, share]

/-- The third. -/
theorem third_left : k0_pay29 d a (ix3 (0 : Fin 1) p q) = a (ix3 (0 : Fin 1) p q) + d (ix2 p (lcol q)) := by
  pointwise [k0_pay29, share]

/-- The second counter-clockwise transfer. -/
theorem second_right : k0_pay28 (k0_pay27 d a) (ix3 (0 : Fin 1) p q) = a (ix3 (0 : Fin 1) p q) + d (ix2 p (rcol q)) := by
  pointwise [k0_pay27, k0_pay28, share]

/-- The third. -/
theorem third_right : k0_pay30 d a (ix3 (0 : Fin 1) p q) = a (ix3 (0 : Fin 1) p q) + d (ix2 p (rcol q)) := by
  pointwise [k0_pay30, share]

/-- The left half of the result: what came last plus the device's own. -/
theorem last_left : k0_pay35 (k0_pay31 x) g (k0_pay32 x g u0 u1) (k0_pay33 x g) u2 u3 a (ix2 p q) = a (ix3 (0 : Fin 1) p q) + share x g u0 u1 u2 u3 p (lcol q) := by
  pointwise [k0_pay31, k0_pay32, k0_pay33, k0_pay34, k0_pay35, share]

/-- The right half of the result. -/
theorem last_right : k0_pay36 d a (ix2 p q) = a (ix3 (0 : Fin 1) p q) + d (ix2 p (rcol q)) := by
  pointwise [k0_pay36, share]
end Block

end Cert.MoeRing

end
-- ==== Proof.Ring.lean ====
/-
# Once round the ring

What the result's block holds on each device: the sum over the devices of their experts' parts.
-/
module

public import proofs.«01_k».proof.Proof.Share
public import proofs.«01_k».proof.Proof.Slots

@[expose] public section

noncomputable section

namespace Cert.MoeRing

open Cert.KernelIdeal Cert.KernelIdeal.Gen
open Idealize.ShloMosaic
open Idealize.ShloMosaic.TcCoe
open Idealize.SL.Sem
open scoped BigOperators

variable (m : (ℓ : Loc nD τ sig) → Buf (Elt Ideal) ℓ) (c : Dev nD)

/-- Row `p` of block `b` among all the tokens. -/
def row (b : Dev nD) (p : Fin 256) : Fin 1024 := ⟨256 * b.val + p.val, by have := b.isLt; have : nD = 4 := rfl; omega⟩

/-- What device `d`'s four experts add to the result at token `r` and column `h`. -/
def part (d : Dev nD) (r h : Fin 1024) : EReal :=
  (∑ k : Fin 512, xA m d (ix2 r k) * gates m d (ix2 r (0 : Fin 4)) * ewA m d (ix3 (0 : Fin 4) k h))
    + (∑ k : Fin 512, xA m d (ix2 r k) * gates m d (ix2 r (1 : Fin 4)) * ewA m d (ix3 (1 : Fin 4) k h))
    + (∑ k : Fin 512, xA m d (ix2 r k) * gates m d (ix2 r (2 : Fin 4)) * ewA m d (ix3 (2 : Fin 4) k h))
    + (∑ k : Fin 512, xA m d (ix2 r k) * gates m d (ix2 r (3 : Fin 4)) * ewA m d (ix3 (3 : Fin 4) k h))

/-- A load of 256 rows of the tokens reads those rows; … -/
theorem rows_x (f : Vec Ideal S1024x512 .bf16) (off : Fin 2 → ℕ) (b : Dev nD) (ho : off = ![256 * b.val, 0])
    (inb : ∀ a, off a + S256x512.size a ≤ S1024x512.size a) (p : Fin 256) (k : Fin 512) :
    xM.view.readAt (Elt Ideal) (Rect.unit (s := S1024x512) off S256x512.size inb).toLoadRect f (ix2 p k) = f (ix2 (row b p) k) := by
  subst ho
  rw [View.readAt_eq_ld]
  pointwise
  rfl
/-- … one of the weights theirs; … -/
theorem rows_g (f : Vec Ideal S1024x4 .f32) (off : Fin 2 → ℕ) (b : Dev nD) (ho : off = ![256 * b.val, 0])
    (inb : ∀ a, off a + S256x4.size a ≤ S1024x4.size a) (p : Fin 256) (k : Fin 4) :
    gM.view.readAt (Elt Ideal) (Rect.unit (s := S1024x4) off S256x4.size inb).toLoadRect f (ix2 p k) = f (ix2 (row b p) k) := by
  subst ho
  rw [View.readAt_eq_ld]
  pointwise
  rfl
/-- … and one expert's matrix is that expert's. -/
theorem one_expert (e : Fin 4) (inb : ∀ a, (![e.val, 0, 0] : Fin 3 → ℕ) a + S1x512x1024.size a ≤ S4x512x1024.size a) (k : Fin 512) (h : Fin 1024) :
    wM.view.readAt (Elt Ideal) (Rect.unit (s := S4x512x1024) ![e.val, 0, 0] S1x512x1024.size inb).toLoadRect (wts m c) (ix3 (0 : Fin 1) k h)
      = ewA m c (ix3 e k h) := by
  have hw : wts m c = ewA m c := by
    funext i
    rw [eq_ix3 i]
    unfold wts
    pointwise [k0_pay11]
  rw [View.readAt_eq_ld, hw]
  pointwise
  rfl

/-- The share of a block, when the rows are block `b`'s. -/
theorem share_row (b : Dev nD) (x : Vec Ideal S256x512 .bf16) (g : Vec Ideal S256x4 .f32)
    (hx : ∀ p k, x (ix2 p k) = xA m c (ix2 (row b p) k)) (hg : ∀ p k, g (ix2 p k) = gates m c (ix2 (row b p) k)) (p : Fin 256) (h : Fin 1024) :
    share x g (w0 m c) (w1 m c) (w2 m c) (w3 m c) p h = part m c (row b p) h := by
  have e0 : ∀ k, w0 m c (ix3 (0 : Fin 1) k h) = ewA m c (ix3 (0 : Fin 4) k h) := fun k => one_expert m c 0 _ k h
  have e1 : ∀ k, w1 m c (ix3 (0 : Fin 1) k h) = ewA m c (ix3 (1 : Fin 4) k h) := fun k => one_expert m c 1 _ k h
  have e2 : ∀ k, w2 m c (ix3 (0 : Fin 1) k h) = ewA m c (ix3 (2 : Fin 4) k h) := fun k => one_expert m c 2 _ k h
  have e3 : ∀ k, w3 m c (ix3 (0 : Fin 1) k h) = ewA m c (ix3 (3 : Fin 4) k h) := fun k => one_expert m c 3 _ k h
  unfold share part
  simp only [hx, hg, e0, e1, e2, e3]

theorem two_on (c : Dev nD) : (256 * ((c.val + 1 + 1) % 4)) = 256 * (nxt (nxt c)).val := by revert c; decide

/-- The four blocks' shares on device `c`. -/
theorem shareL (p : Fin 256) (h : Fin 1024) :
    share (xL m c) (gL m c) (w0 m c) (w1 m c) (w2 m c) (w3 m c) p h = part m c (row (prv c) p) h :=
  share_row m c (prv c) _ _ (rows_x _ _ (prv c) (k0_off1_eq c) _) (rows_g _ _ (prv c) (k0_off2_eq c) _) p h
theorem shareR (p : Fin 256) (h : Fin 1024) :
    share (xR m c) (gR m c) (w0 m c) (w1 m c) (w2 m c) (w3 m c) p h = part m c (row (nxt c) p) h :=
  share_row m c (nxt c) _ _ (rows_x _ _ (nxt c) (k0_off3_eq c 0) _) (rows_g _ _ (nxt c) (k0_off4_eq c 0) _) p h
theorem shareO (p : Fin 256) (h : Fin 1024) :
    share (xO m c) (gO m c) (w0 m c) (w1 m c) (w2 m c) (w3 m c) p h = part m c (row (nxt (nxt c)) p) h :=
  share_row m c (nxt (nxt c)) _ _ (rows_x _ _ _ ((k0_off3_eq c 1).trans (congrArg (fun n => ![n, 0]) (two_on c))) _)
    (rows_g _ _ _ ((k0_off4_eq c 1).trans (congrArg (fun n => ![n, 0]) (two_on c))) _) p h
theorem shareS (p : Fin 256) (h : Fin 1024) :
    share (xS m c) (gS m c) (w0 m c) (w1 m c) (w2 m c) (w3 m c) p h = part m c (row c p) h :=
  share_row m c c _ _ (rows_x _ _ c (k0_off5_eq c) _) (rows_g _ _ c (k0_off6_eq c) _) p h

variable (p : Fin 256) (q : Fin 512) (h : Fin 1024)

theorem partL_at : partL m c (ix2 p h) = part m c (row (prv c) p) h := (share_before ..).trans (shareL m c p h)
theorem partR_at : partR m c (ix2 p h) = part m c (row (nxt c) p) h := (share_after ..).trans (shareR m c p h)
theorem partO_at : partO m c (ix2 p h) = part m c (row (nxt (nxt c)) p) h := (share_across ..).trans (shareO m c p h)
theorem partS_at : partS m c (ix2 p h) = part m c (row c p) h := (share_own ..).trans (shareS m c p h)
theorem halfO_at : halfO m c (ix2 p q) = part m c (row (nxt (nxt c)) p) (lcol q) := (across_left ..).trans (shareO m c p _)

/-- The clockwise transfers carry the left half of a block, each adding one device's part. -/
theorem cw0_at : cw0 m c (ix3 (0 : Fin 1) p q) = part m c (row (prv c) p) (lcol q) := (first_left ..).trans (shareL m c p _)
theorem cw1_at : cw1 m c (ix3 (0 : Fin 1) p q)
    = part m (prv c) (row (prv (prv c)) p) (lcol q) + part m c (row (nxt (nxt c)) p) (lcol q) :=
  (second_left ..).trans (congrArg₂ (· + ·) (cw0_at m (prv c) p q) (halfO_at m c p q))
theorem cw2_at : cw2 m c (ix3 (0 : Fin 1) p q)
    = part m (prv (prv c)) (row (prv (prv (prv c))) p) (lcol q) + part m (prv c) (row (nxt (nxt (prv c))) p) (lcol q)
      + part m c (row (nxt c) p) (lcol q) :=
  (third_left ..).trans (congrArg₂ (· + ·) (cw1_at m (prv c) p q) (partR_at m c p (lcol q)))

/-- The counter-clockwise ones carry the right half. -/
theorem cc0_at : cc0 m c (ix3 (0 : Fin 1) p q) = part m c (row (nxt c) p) (rcol q) := (first_right ..).trans (shareR m c p _)
theorem cc1_at : cc1 m c (ix3 (0 : Fin 1) p q)
    = part m (nxt c) (row (nxt (nxt c)) p) (rcol q) + part m c (row (nxt (nxt c)) p) (rcol q) :=
  (second_right ..).trans (congrArg₂ (· + ·) (cc0_at m (nxt c) p q) (partO_at m c p (rcol q)))
theorem cc2_at : cc2 m c (ix3 (0 : Fin 1) p q)
    = part m (nxt (nxt c)) (row (nxt (nxt (nxt c))) p) (rcol q) + part m (nxt c) (row (nxt (nxt (nxt c))) p) (rcol q)
      + part m c (row (prv c) p) (rcol q) :=
  (third_right ..).trans (congrArg₂ (· + ·) (cc1_at m (nxt c) p q) (partL_at m c p (rcol q)))

/-- Once round the ring, from the next device to the device itself, is every device. -/
theorem round (f : Dev nD → EReal) (c : Dev nD) : f (nxt c) + f (nxt (nxt c)) + f (prv c) + f c = ∑ d : Dev nD, f d := by
  have hs : ∑ d : Dev nD, f d = f 0 + f 1 + f 2 + f 3 := Fin.sum_univ_four f
  rw [hs]
  rcases (show c = 0 ∨ c = 1 ∨ c = 2 ∨ c = 3 by revert c; decide) with rfl | rfl | rfl | rfl
  · show f 1 + f 2 + f 3 + f 0 = _; abel
  · show f 2 + f 3 + f 0 + f 1 = _; abel
  · show f 3 + f 0 + f 1 + f 2 = _; abel
  · show f 0 + f 1 + f 2 + f 3 = _; abel

theorem prv2 (c : Dev nD) : prv (prv c) = nxt (nxt c) := by revert c; decide
theorem prv3 (c : Dev nD) : prv (prv (prv c)) = nxt c := by revert c; decide
theorem nxt3 (c : Dev nD) : nxt (nxt (nxt c)) = prv c := by revert c; decide
theorem nxt4 (c : Dev nD) : nxt (nxt (nxt (nxt c))) = c := by revert c; decide

/-- The result's left half on device `c`: every device's part of its block. -/
theorem outL_at : outL m c (ix2 p q) = ∑ d : Dev nD, part m d (row c p) (lcol q) := by
  refine (last_left ..).trans ((congrArg₂ (· + ·) (cw2_at m (prv c) p q) (shareS m c p (lcol q))).trans ?_)
  rw [prv3 (prv c), nxt_prv, nxt_prv, prv3, prv2, nxt_prv]
  exact round (fun d => part m d (row c p) (lcol q)) c
/-- The right half. -/
theorem outR_at : outR m c (ix2 p q) = ∑ d : Dev nD, part m d (row c p) (rcol q) := by
  refine (last_right ..).trans ((congrArg₂ (· + ·) (cc2_at m (nxt c) p q) (partS_at m c p (rcol q))).trans ?_)
  rw [nxt4, nxt3, prv_nxt, ← round (fun d => part m d (row c p) (rcol q)) c]
  abel

/-- The result on device `c`, entry by entry. -/
theorem outAt_at : outAt m c (ix2 p h) = ∑ d : Dev nD, part m d (row c p) h := by
  unfold outAt
  by_cases hh : h.val < 512
  · refine (dif_pos hh).trans ?_
    exact outL_at m c p ⟨h.val, hh⟩
  · refine (dif_neg hh).trans ?_
    refine (outR_at m c p ⟨h.val - 512, by omega⟩).trans ?_
    have : rcol ⟨h.val - 512, by omega⟩ = h := Fin.ext (by show 512 + (h.val - 512) = h.val; omega)
    rw [this]

end Cert.MoeRing

end
-- ==== Proof.Spec.lean ====
/-
# The mathematics

A mixture of two experts per token, entry by entry over the extended reals.
-/
module

public import Idealize.ShloMosaic.Lib.Pointwise

@[expose] public section

noncomputable section

namespace Cert.MoeRing

open Idealize.ShloMosaic
open Idealize.ShloMosaic.TcCoe
open Idealize.SL.Sem
open scoped BigOperators

/-- A token's score for expert `e`. -/
def score (x : FVec Ideal ⟨2, ![1024, 512]⟩ .bf16) (W : FVec Ideal ⟨2, ![512, 16]⟩ .bf16) (r : Fin 1024) (e : Fin 16) : EReal :=
  ∑ d : Fin 512, x (ix2 r d) * W (ix2 d e)

/-- The largest of a token's scores. -/
def top (x : FVec Ideal ⟨2, ![1024, 512]⟩ .bf16) (W : FVec Ideal ⟨2, ![512, 16]⟩ .bf16) (r : Fin 1024) : EReal :=
  Finset.fold max (Ideal.ofBits FTy.f32 0xFF800000#32) (score x W r) Finset.univ

/-- The router's softmax: the probability of expert `e` for a token. -/
def prob (x : FVec Ideal ⟨2, ![1024, 512]⟩ .bf16) (W : FVec Ideal ⟨2, ![512, 16]⟩ .bf16) (r : Fin 1024) (e : Fin 16) : EReal :=
  Ideal.div (Ideal.exp (score x W r e - top x W r)) (∑ e' : Fin 16, Ideal.exp (score x W r e' - top x W r))

/-- A token times expert `e`'s matrix. -/
def prod (x : FVec Ideal ⟨2, ![1024, 512]⟩ .bf16) (E : FVec Ideal ⟨3, ![16, 512, 1024]⟩ .bf16) (r : Fin 1024) (e : Fin 16)
    (h : Fin 1024) : EReal :=
  ∑ k : Fin 512, x (ix2 r k) * E (ix3 e k h)

/-- The mixture of two experts, weighted by their probabilities. -/
def mixed (x : FVec Ideal ⟨2, ![1024, 512]⟩ .bf16) (W : FVec Ideal ⟨2, ![512, 16]⟩ .bf16) (E : FVec Ideal ⟨3, ![16, 512, 1024]⟩ .bf16)
    (r h : Fin 1024) (e0 e1 : Fin 16) : EReal :=
  Ideal.div (prob x W r e0) (prob x W r e0 + prob x W r e1) * prod x E r e0 h
    + Ideal.div (prob x W r e1) (prob x W r e0 + prob x W r e1) * prod x E r e1 h

end Cert.MoeRing

end
-- ==== Proof.Weights.lean ====
/-
# The two chosen experts

A sum over all sixteen experts, weighted by the chosen probabilities, is the mixture of the two chosen.
-/
module

public import proofs.«01_k».proof.Proof.Spec

@[expose] public section

noncomputable section

namespace Cert.MoeRing

open Idealize.ShloMosaic
open Idealize.ShloMosaic.TcCoe
open Idealize.SL.Sem
open scoped BigOperators

/-- The probability of expert `e` if it is one of the two chosen, else zero. -/
def chosen (p : Fin 16 → EReal) (e0 e1 e : Fin 16) : EReal := if e0 = e ∨ e1 = e then p e else 0

/-- The weight of expert `e`: its share of the two chosen probabilities. -/
def weight (p : Fin 16 → EReal) (e0 e1 e : Fin 16) : EReal :=
  Ideal.div (chosen p e0 e1 e) (∑ e' : Fin 16, chosen p e0 e1 e')

/-- A nonnegative real factor comes out of a sum. -/
theorem real_mul_sum {ι : Type} (s : Finset ι) (w : ℝ) (hw : 0 ≤ w) (f : ι → EReal) :
    (∑ i ∈ s, (w : EReal) * f i) = (w : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hw) (EReal.coe_ne_top w)]

section Weights
variable (p : Fin 16 → EReal) (e0 e1 : Fin 16)

/-- The two chosen probabilities, summed. -/
theorem chosen_sum (hne : e0 ≠ e1) : (∑ e : Fin 16, chosen p e0 e1 e) = p e0 + p e1 := by
  rw [Finset.sum_eq_add e0 e1 hne]
  · simp [chosen]
  · rintro e - ⟨h0, h1⟩; simp [chosen, h0.symm, h1.symm]
  · simp
  · simp
theorem chosen_sum_same : (∑ e : Fin 16, chosen p e0 e0 e) = p e0 := by
  rw [Finset.sum_eq_single e0]
  · simp [chosen]
  · intro e _ h; simp [chosen, h.symm]
  · simp

variable (a : Fin 16 → ℝ) (ha : ∀ e, 0 < a e) (hp : ∀ e, p e = (a e : EReal))
include ha hp

/-- The chosen probabilities' sum is a positive real, whether or not the two experts are the same. -/
theorem chosen_sum_pos : ∃ s : ℝ, 0 < s ∧ (∑ e : Fin 16, chosen p e0 e1 e) = (s : EReal) := by
  by_cases hne : e0 = e1
  · subst hne; exact ⟨a e0, ha e0, by rw [chosen_sum_same, hp]⟩
  · exact ⟨a e0 + a e1, add_pos (ha _) (ha _), by rw [chosen_sum p e0 e1 hne, hp, hp, EReal.coe_add]⟩

/-- A weight is a nonnegative real. -/
theorem weight_real (e : Fin 16) : ∃ w : ℝ, 0 ≤ w ∧ weight p e0 e1 e = (w : EReal) := by
  obtain ⟨s, hs, h⟩ := chosen_sum_pos p e0 e1 a ha hp
  unfold weight
  rw [h, Ideal.div_coe hs.ne']
  by_cases hc : e0 = e ∨ e1 = e
  · exact ⟨a e * (1 / s), mul_nonneg (ha e).le (by positivity), by rw [chosen, if_pos hc, hp, EReal.coe_mul]⟩
  · exact ⟨0, le_rfl, by rw [chosen, if_neg hc, zero_mul, EReal.coe_zero]⟩

/-- An expert that is not chosen has weight zero. -/
theorem weight_zero (e : Fin 16) (h0 : e0 ≠ e) (h1 : e1 ≠ e) : weight p e0 e1 e = 0 := by
  obtain ⟨s, hs, h⟩ := chosen_sum_pos p e0 e1 a ha hp
  unfold weight
  rw [h, Ideal.div_coe hs.ne', chosen, if_neg (by simp [h0, h1]), zero_mul]

/-- The sum over all experts is the mixture of the two chosen. -/
theorem mixture (T : Fin 16 → EReal) :
    (∑ e : Fin 16, weight p e0 e1 e * T e)
      = Ideal.div (p e0) (p e0 + p e1) * T e0 + Ideal.div (p e1) (p e0 + p e1) * T e1 := by
  by_cases hne : e0 = e1
  · subst hne
    rw [Finset.sum_eq_single e0]
    · unfold weight
      rw [chosen_sum_same, chosen, if_pos (Or.inl rfl), hp, ← EReal.coe_add, Ideal.div_coe (ha e0).ne',
        Ideal.div_coe (add_pos (ha e0) (ha e0)).ne', ← EReal.coe_mul, ← EReal.coe_mul]
      have hpos := ha e0
      rw [← EReal.right_distrib_of_nonneg (EReal.coe_nonneg.mpr (by positivity)) (EReal.coe_nonneg.mpr (by positivity)),
        ← EReal.coe_add]
      congr 2
      field_simp
    · intro e _ h; rw [weight_zero p e0 e0 a ha hp e h.symm h.symm, zero_mul]
    · simp
  · rw [Finset.sum_eq_add e0 e1 hne]
    · unfold weight
      rw [chosen_sum p e0 e1 hne, chosen, if_pos (Or.inl rfl), chosen, if_pos (Or.inr rfl)]
    · rintro e - ⟨h0, h1⟩; rw [weight_zero p e0 e1 a ha hp e h0.symm h1.symm, zero_mul]
    · simp
    · simp

/-- The same with each expert's weight applied to the token's entries before the product. -/
theorem mixture_inside (x : Fin 512 → EReal) (E : Fin 16 → Fin 512 → EReal) :
    (∑ e : Fin 16, ∑ k : Fin 512, x k * weight p e0 e1 e * E e k)
      = Ideal.div (p e0) (p e0 + p e1) * (∑ k : Fin 512, x k * E e0 k)
        + Ideal.div (p e1) (p e0 + p e1) * (∑ k : Fin 512, x k * E e1 k) := by
  rw [← mixture p e0 e1 a ha hp (fun e => ∑ k : Fin 512, x k * E e k)]
  refine Finset.sum_congr rfl fun e _ => ?_
  obtain ⟨w, hw, h⟩ := weight_real p e0 e1 a ha hp e
  rw [h, ← real_mul_sum _ w hw]
  exact Finset.sum_congr rfl fun k _ => by rw [mul_comm (x k), mul_assoc]
end Weights

end Cert.MoeRing

end
-- ==== Proof.Gates.lean ====
/-
# The weights

The table of weights a device's experts get, entry by entry.
-/
module

public import proofs.«01_k».proof.Proof.Cells
public import proofs.«01_k».proof.Proof.Weights

@[expose] public section

noncomputable section

namespace Cert.MoeRing

open Cert.KernelIdeal Cert.KernelIdeal.Gen
open Idealize.ShloMosaic
open Idealize.ShloMosaic.TcCoe
open Idealize.SL.Sem
open scoped BigOperators

/-- Comparing two experts' numbers as words. -/
theorem eq_bit (a b : Fin 16) : IntOp.cmpi CmpIPredicate.eq (BitVec.ofNat 32 a.val) (BitVec.ofNat 32 b.val) = if a = b then 1 else 0 := by
  revert a b; decide

/-- Expert `k` of device `c`'s four, by its number among all. -/
def expert (c : Dev nD) (k : Fin 4) : Fin 16 := ⟨4 * c.val + k.val, by have := c.isLt; have : nD = 4 := rfl; omega⟩

theorem expert_word0 (c : Dev nD) : Scalar.addi (Scalar.muli (axw c) 4#32) 0#32 = BitVec.ofNat 32 (expert c 0).val := by
  revert c; decide
theorem expert_word1 (c : Dev nD) : Scalar.addi (Scalar.muli (axw c) 4#32) 1#32 = BitVec.ofNat 32 (expert c 1).val := by
  revert c; decide
theorem expert_word2 (c : Dev nD) : Scalar.addi (Scalar.muli (axw c) 4#32) 2#32 = BitVec.ofNat 32 (expert c 2).val := by
  revert c; decide
theorem expert_word3 (c : Dev nD) : Scalar.addi (Scalar.muli (axw c) 4#32) 3#32 = BitVec.ofNat 32 (expert c 3).val := by
  revert c; decide

/-- The kernel's probabilities are the softmax. -/
theorem pay1_at (x : Vec Ideal S1024x512 .bf16) (W : Vec Ideal S512x16 .bf16) (r : Fin 1024) (e : Fin 16) :
    k0_pay1 x W (ix2 r e) = prob x W r e := by
  pointwise [k0_pay1, prob, top, score]

section Gates
variable (c : Dev nD) (P : FVec Ideal S1024x16 .f32) (ix : Vec Ideal S1024x2 .i32) (r : Fin 1024) (e0 e1 e : Fin 16)
  (h0 : ix (ix2 r 0) = BitVec.ofNat 32 e0.val) (h1 : ix (ix2 r 1) = BitVec.ofNat 32 e1.val)

include h0 h1

theorem pay4_at : k0_pay4 P (k0_pay2 (F := Ideal) ix) iota16 (k0_pay3 (F := Ideal) ix) (ix2 r e)
    = chosen (fun e => P (ix2 r e)) e0 e1 e := by
  pointwise [k0_pay4, k0_pay2, k0_pay3]
  rw [h0, h1, eq_bit, eq_bit]
  unfold chosen Scalar.select IntOp.ori
  by_cases a : e0 = e <;> by_cases b : e1 = e <;> simp [a, b]

theorem pay5_at : k0_pay5 P (k0_pay2 (F := Ideal) ix) iota16 (k0_pay3 (F := Ideal) ix) (ix2 r 0)
    = ∑ e : Fin 16, chosen (fun e => P (ix2 r e)) e0 e1 e := by
  pointwise [k0_pay5]
  exact Finset.sum_congr rfl fun e _ => pay4_at P ix r e0 e1 e h0 h1

/-- Summing a row after all but one expert is masked out leaves that expert's entry. -/
theorem masked_sum (t : Fin 16) :
    (∑ x : Fin 16, Scalar.select (IntOp.cmpi CmpIPredicate.eq (BitVec.ofNat 32 x.val) (BitVec.ofNat 32 t.val))
      (k0_pay4 P (k0_pay2 (F := Ideal) ix) iota16 (k0_pay3 (F := Ideal) ix) (ix2 r x)) (0 : EReal))
      = chosen (fun e => P (ix2 r e)) e0 e1 t := by
  have : ∀ x : Fin 16, Scalar.select (IntOp.cmpi CmpIPredicate.eq (BitVec.ofNat 32 x.val) (BitVec.ofNat 32 t.val))
      (k0_pay4 P (k0_pay2 (F := Ideal) ix) iota16 (k0_pay3 (F := Ideal) ix) (ix2 r x)) (0 : EReal)
      = if x = t then chosen (fun e => P (ix2 r e)) e0 e1 x else 0 := fun x => by
    rw [eq_bit, pay4_at P ix r e0 e1 x h0 h1]
    unfold Scalar.select
    by_cases a : x = t <;> simp [a]
  rw [Finset.sum_congr rfl fun x _ => this x]
  simp

theorem pay6_at : k0_pay6 (axw c) P (k0_pay2 (F := Ideal) ix) iota16 (k0_pay3 (F := Ideal) ix) (ix2 r 0)
    = weight (fun e => P (ix2 r e)) e0 e1 (expert c 0) := by
  pointwise [k0_pay6]
  rw [expert_word0, masked_sum P ix r e0 e1 h0 h1, pay5_at P ix r e0 e1 h0 h1]; rfl

theorem pay7_at : k0_pay7 (axw c) P (k0_pay2 (F := Ideal) ix) iota16 (k0_pay3 (F := Ideal) ix) (ix2 r 0)
    = weight (fun e => P (ix2 r e)) e0 e1 (expert c 1) := by
  pointwise [k0_pay7]
  rw [expert_word1, masked_sum P ix r e0 e1 h0 h1, pay5_at P ix r e0 e1 h0 h1]; rfl

theorem pay8_at : k0_pay8 (axw c) P (k0_pay2 (F := Ideal) ix) iota16 (k0_pay3 (F := Ideal) ix) (ix2 r 0)
    = weight (fun e => P (ix2 r e)) e0 e1 (expert c 2) := by
  pointwise [k0_pay8]
  rw [expert_word2, masked_sum P ix r e0 e1 h0 h1, pay5_at P ix r e0 e1 h0 h1]; rfl

theorem pay9_at : (∑ e : Fin 16, k0_pay9 (axw c) P (k0_pay2 (F := Ideal) ix) iota16 (k0_pay3 (F := Ideal) ix) (ix2 r e))
    = chosen (fun e => P (ix2 r e)) e0 e1 (expert c 3) := by
  pointwise [k0_pay9]
  rw [expert_word3, masked_sum P ix r e0 e1 h0 h1]

end Gates

section Table
variable (a b c d : FVec Ideal S1024x1 .f32) (g : FVec Ideal S1024x16 .f32) (r : Fin 1024)

theorem pay10_at0 : k0_pay10 a b c d g (ix2 r 0) = b (ix2 r 0) := by pointwise [k0_pay10]
theorem pay10_at1 : k0_pay10 a b c d g (ix2 r 1) = c (ix2 r 0) := by pointwise [k0_pay10]
theorem pay10_at2 : k0_pay10 a b c d g (ix2 r 2) = d (ix2 r 0) := by pointwise [k0_pay10]
theorem pay10_at3 : k0_pay10 a b c d g (ix2 r 3) = Ideal.div (∑ e : Fin 16, g (ix2 r e)) (a (ix2 r 0)) := by
  pointwise [k0_pay10]

end Table

/-- The table of weights on device `c`, at token `r` and its expert `k`. -/
theorem gates_at (m : (ℓ : Loc nD τ sig) → Buf (Elt Ideal) ℓ) (c : Dev nD) (r : Fin 1024) (e0 e1 : Fin 16)
    (h0 : ixA m c (ix2 r 0) = BitVec.ofNat 32 e0.val) (h1 : ixA m c (ix2 r 1) = BitVec.ofNat 32 e1.val) (k : Fin 4) :
    gates m c (ix2 r k) = weight (prob (xA m c) (rwA m c) r) e0 e1 (expert c k) := by
  have hp : (fun e => probs m c (ix2 r e)) = prob (xA m c) (rwA m c) r := funext fun e => pay1_at _ _ r e
  rw [← hp]
  unfold gates
  rcases (show k = 0 ∨ k = 1 ∨ k = 2 ∨ k = 3 by revert k; decide) with rfl | rfl | rfl | rfl
  · rw [pay10_at0]; exact pay6_at c _ _ r e0 e1 h0 h1
  · rw [pay10_at1]; exact pay7_at c _ _ r e0 e1 h0 h1
  · rw [pay10_at2]; exact pay8_at c _ _ r e0 e1 h0 h1
  · rw [pay10_at3]
    exact congrArg₂ Ideal.div (pay9_at c _ _ r e0 e1 h0 h1) (pay5_at _ _ r e0 e1 h0 h1)

end Cert.MoeRing

end
-- ==== Proof.Positive.lean ====
/-
# Probabilities are positive

With finite tokens and router weights every softmax probability is a positive real.
-/
module

public import proofs.«01_k».proof.Proof.Spec

@[expose] public section

noncomputable section

namespace Cert.MoeRing

open Idealize.ShloMosaic
open Idealize.ShloMosaic.TcCoe
open Idealize.SL.Sem
open scoped BigOperators

/-- A sum of reals is a real. -/
theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

section Real
variable (x : FVec Ideal ⟨2, ![1024, 512]⟩ .bf16) (W : FVec Ideal ⟨2, ![512, 16]⟩ .bf16) (r : Fin 1024)
  (hx : ∀ i, ∃ a : ℝ, x i = (a : EReal)) (hW : ∀ i, ∃ a : ℝ, W i = (a : EReal))

include hx hW

/-- Finite arguments have finite scores. -/
theorem score_real (e : Fin 16) : ∃ a : ℝ, score x W r e = (a : EReal) := by
  choose a ha using hx
  choose b hb using hW
  refine ⟨∑ d : Fin 512, a (ix2 r d) * b (ix2 d e), ?_⟩
  unfold score
  rw [← sum_real]
  exact Finset.sum_congr rfl fun d _ => by rw [ha, hb, EReal.coe_mul]

/-- Their largest is finite. -/
theorem top_real : ∃ a : ℝ, top x W r = (a : EReal) := by
  have hb : Ideal.ofBits FTy.f32 0xFF800000#32 = ⊥ := by simp [Ideal.ofBits, Ideal.ieee]
  have hlt : top x W r < ⊤ := by
    unfold top
    rw [Finset.fold_max_lt, hb]
    refine ⟨bot_lt_top, fun e _ => ?_⟩
    obtain ⟨a, ha⟩ := score_real x W r hx hW e
    rw [ha]; exact EReal.coe_lt_top a
  have hgt : ⊥ < top x W r := by
    obtain ⟨a, ha⟩ := score_real x W r hx hW 0
    refine lt_of_lt_of_le (b := score x W r 0) (by rw [ha]; exact EReal.bot_lt_coe a) ?_
    unfold top
    rw [Finset.le_fold_max]
    exact Or.inr ⟨0, Finset.mem_univ _, le_rfl⟩
  exact ⟨(top x W r).toReal, (EReal.coe_toReal hlt.ne hgt.ne').symm⟩

/-- Every probability is a positive real. -/
theorem prob_pos (e : Fin 16) : ∃ a : ℝ, 0 < a ∧ prob x W r e = (a : EReal) := by
  choose s hs using fun e => score_real x W r hx hW e
  obtain ⟨t, ht⟩ := top_real x W r hx hW
  have he : ∀ e, Ideal.exp (score x W r e - top x W r) = ((Real.exp (s e - t) : ℝ) : EReal) := fun e => by
    rw [hs, ht, ← EReal.coe_sub, Ideal.exp_coe]
  have hsum : 0 < ∑ e : Fin 16, Real.exp (s e - t) := Finset.sum_pos (fun e _ => Real.exp_pos _) ⟨0, Finset.mem_univ _⟩
  refine ⟨Real.exp (s e - t) * (1 / ∑ e : Fin 16, Real.exp (s e - t)), mul_pos (Real.exp_pos _) (by positivity), ?_⟩
  unfold prob
  simp only [he]
  rw [sum_real, Ideal.div_coe hsum.ne', EReal.coe_mul]
end Real

end Cert.MoeRing

end
-- ==== Proof.Whole.lean ====
/-
# The equation

The sum round the ring is the mixture the reference computes.
-/
module

public import proofs.«01_k».proof.Proof.Ring
public import proofs.«01_k».proof.Proof.Gates
public import proofs.«01_k».proof.Proof.Positive

@[expose] public section

noncomputable section

namespace Cert.MoeRing

open Cert.KernelIdeal Cert.KernelIdeal.Gen
open Idealize.ShloMosaic
open Idealize.ShloMosaic.TcCoe
open Idealize.SL.Sem
open scoped BigOperators

/-- The four devices' four experts are the sixteen experts. -/
theorem experts (f : Fin 16 → EReal) : (∑ d : Dev nD, ∑ k : Fin 4, f (expert d k)) = ∑ e : Fin 16, f e := by
  have hb : Function.Bijective (fun q : Dev nD × Fin 4 => expert q.1 q.2) := ⟨by decide, by decide⟩
  rw [← Fintype.sum_prod_type']
  exact Fintype.sum_bijective _ hb _ _ fun _ => rfl

section Sum
variable (m : (ℓ : Loc nD τ sig) → Buf (Elt Ideal) ℓ)
  (x : FVec Ideal ⟨2, ![1024, 512]⟩ .bf16) (W : FVec Ideal ⟨2, ![512, 16]⟩ .bf16) (ix : IVec ⟨2, ![1024, 2]⟩ 32)
  (E : FVec Ideal ⟨3, ![16, 512, 1024]⟩ .bf16)
  (hx : ∀ d, xA m d = x) (hW : ∀ d, rwA m d = W) (hix : ∀ d, ixA m d = ix)
  (hE : ∀ d k j h, ewA m d (ix3 k j h) = E (ix3 (expert d k) j h))
  (fx : ∀ i, ∃ a : ℝ, x i = (a : EReal)) (fW : ∀ i, ∃ a : ℝ, W i = (a : EReal))
  (r h : Fin 1024) (e0 e1 : Fin 16) (h0 : ix (ix2 r 0) = BitVec.ofNat 32 e0.val) (h1 : ix (ix2 r 1) = BitVec.ofNat 32 e1.val)

include hx hW hix hE h0 h1 in
/-- One device's part, by its experts' numbers. -/
theorem part_experts (d : Dev nD) :
    part m d r h = ∑ k : Fin 4, ∑ j : Fin 512, x (ix2 r j) * weight (prob x W r) e0 e1 (expert d k) * E (ix3 (expert d k) j h) := by
  have hg : ∀ k, gates m d (ix2 r k) = weight (prob x W r) e0 e1 (expert d k) := fun k => by
    have := gates_at m d r e0 e1 (by rw [hix]; exact h0) (by rw [hix]; exact h1) k
    rwa [hx, hW] at this
  unfold part
  rw [Fin.sum_univ_four]
  simp only [hx, hE, hg]

include hx hW hix hE h0 h1 fx fW in
/-- The sum round the ring is the mixture of the two experts chosen. -/
theorem parts_mixed : (∑ d : Dev nD, part m d r h) = mixed x W E r h e0 e1 := by
  rw [Finset.sum_congr rfl fun d _ => part_experts m x W ix E hx hW hix hE r h e0 e1 h0 h1 d,
    experts (fun e => ∑ j : Fin 512, x (ix2 r j) * weight (prob x W r) e0 e1 e * E (ix3 e j h))]
  choose a ha hp using fun e => prob_pos x W r fx fW e
  exact mixture_inside (prob x W r) e0 e1 a ha hp (fun j => x (ix2 r j)) (fun e j => E (ix3 e j h))
end Sum

end Cert.MoeRing

end
-- ==== Proof.Gather.lean ====
/-
# The gathers

The two gathers of the reference, read at an index that is in range.
-/
module

public import proofs.«01_k».proof.Proof.Gen.ReferenceIdeal.Run
public import Idealize.ShloMosaic.Lib.Pointwise

@[expose] public section

noncomputable section

namespace Cert.MoeRing.Ref

open Cert.ReferenceIdeal Cert.ReferenceIdeal.Gen Cert.ReferenceIdeal.Value
open Idealize.ShloMosaic
open Idealize.ShloMosaic.TcCoe
open Idealize.SL.Sem
open scoped BigOperators

/-- A small number written as a 32-bit word reads back as itself. -/
theorem ofNat_toNat (n : ℕ) (h : n < 2048) : (BitVec.ofNat 32 n).toInt.toNat = n := by
  rw [BitVec.toInt_ofNat']
  norm_num [Int.bmod]
  omega

/-- The probability gathered at row `r`: the start index names the row and an expert. -/
theorem gather_prob {α : Type} (X : S1024x16.Idx → α) (idx : IVec S1024x2 32) (r : Fin 1024) (e : Fin 16)
    (hr : idx (ix2 r 0) = BitVec.ofNat 32 r.val) (he : idx (ix2 r 1) = BitVec.ofNat 32 e.val) :
    Host.gather gather_S1024x16_S1024x2_S1024_n_01_n_n_01_1_11 X idx (ix1 r) = X (ix2 r e) := by
  unfold Host.gather
  congr 1
  funext a
  refine Fin.ext ?_
  have hoff : ∀ a, gather_S1024x16_S1024x2_S1024_n_01_n_n_01_1_11.offCoord (ix1 r) a = 0 := fun a =>
    GatherDims.offCoord_eq_zero _ _ _ (fun h => ((GatherDims.mem_sKept _ _).mp h).1 (by fin_cases a <;> decide))
  have hs : ∀ k : Fin 2, gather_S1024x16_S1024x2_S1024_n_01_n_n_01_1_11.siIdx (ix1 r) k = ix2 r k := fun k => by
    funext b; refine Fin.ext ?_
    match b with
    | ⟨0, _⟩ => rfl
    | ⟨1, _⟩ => rfl
  show gather_S1024x16_S1024x2_S1024_n_01_n_n_01_1_11.start (ix1 r) idx a
    + gather_S1024x16_S1024x2_S1024_n_01_n_n_01_1_11.batchCoord (ix1 r) a
    + gather_S1024x16_S1024x2_S1024_n_01_n_n_01_1_11.offCoord (ix1 r) a = _
  rw [GatherDims.batchCoord_eq_zero _ _ _ List.not_mem_nil, hoff]
  unfold GatherDims.start
  rcases (show a = (0 : Fin 2) ∨ a = (1 : Fin 2) by revert a; decide) with rfl | rfl
  · rw [dif_pos (by decide)]
    refine (congrArg (fun i => min (idx i).toInt.toNat (1024 - 1)) (hs 0)).trans ?_
    show min (idx (ix2 r 0)).toInt.toNat (1024 - 1) = r.val
    rw [hr, ofNat_toNat _ (by omega)]; omega
  · rw [dif_pos (by decide)]
    refine (congrArg (fun i => min (idx i).toInt.toNat (16 - 1)) (hs 1)).trans ?_
    show min (idx (ix2 r 1)).toInt.toNat (16 - 1) = e.val
    rw [he, ofNat_toNat _ (by omega)]; omega

/-- The expert's matrix gathered for row `r`. -/
theorem gather_expert {α : Type} (X : S16x512x1024.Idx → α) (idx : IVec S1024x1 32) (r : Fin 1024) (e : Fin 16)
    (k : Fin 512) (h : Fin 1024) (he : idx (ix2 r 0) = BitVec.ofNat 32 e.val) :
    Host.gather gather_S16x512x1024_S1024x1_S1024x512x1024_12_0_n_n_0_1_15121024 X idx (ix3 r k h) = X (ix3 e k h) := by
  unfold Host.gather
  congr 1
  funext a
  refine Fin.ext ?_
  show gather_S16x512x1024_S1024x1_S1024x512x1024_12_0_n_n_0_1_15121024.start (ix3 r k h) idx a
    + gather_S16x512x1024_S1024x1_S1024x512x1024_12_0_n_n_0_1_15121024.batchCoord (ix3 r k h) a
    + gather_S16x512x1024_S1024x1_S1024x512x1024_12_0_n_n_0_1_15121024.offCoord (ix3 r k h) a = _
  have hs : gather_S16x512x1024_S1024x1_S1024x512x1024_12_0_n_n_0_1_15121024.siIdx (ix3 r k h) (0 : Fin 1) = ix2 r 0 := by
    funext b; refine Fin.ext ?_
    match b with
    | ⟨0, _⟩ => rfl
    | ⟨1, _⟩ => rfl
  rw [GatherDims.batchCoord_eq_zero _ _ _ List.not_mem_nil, Nat.add_zero]
  unfold GatherDims.start
  rcases (show a = (0 : Fin 3) ∨ a = (1 : Fin 3) ∨ a = (2 : Fin 3) by revert a; decide) with rfl | rfl | rfl
  · rw [dif_pos (by decide), GatherDims.offCoord_eq_zero _ _ _ (fun h => ((GatherDims.mem_sKept _ _).mp h).1 (by decide)), Nat.add_zero]
    refine (congrArg (fun i => min (idx i).toInt.toNat (16 - 1)) hs).trans ?_
    show min (idx (ix2 r 0)).toInt.toNat (16 - 1) = e.val
    rw [he, ofNat_toNat _ (by omega)]; omega
  · rw [dif_neg (by decide), Nat.zero_add]; rfl
  · rw [dif_neg (by decide), Nat.zero_add]; rfl

end Cert.MoeRing.Ref

end
-- ==== Proof.RefValue.lean ====
/-
# The reference

What the reference computes, entry by entry.
-/
module

public import proofs.«01_k».proof.Proof.Gather
public import proofs.«01_k».proof.Proof.Spec

@[expose] public section

noncomputable section

namespace Cert.MoeRing.Ref

open Cert.ReferenceIdeal Cert.ReferenceIdeal.Gen Cert.ReferenceIdeal.Value
open Idealize.ShloMosaic
open Idealize.ShloMosaic.TcCoe
open Idealize.SL.Sem
open scoped BigOperators

section Named
variable (x : FVec Ideal S1024x512 .bf16) (W : FVec Ideal S512x16 .bf16) (ix : IVec S1024x2 32) (E : FVec Ideal S16x512x1024 .bf16)

/-- The scores, as an array. -/
def scores : FVec Ideal S1024x16 .f32 :=
  Host.dotGeneral dot_S1024x512_S512x16_S1024x16_1_0_0_1_n_n none (extf .f32 x bitsLt_bf16_f32) (extf .f32 W bitsLt_bf16_f32)
/-- The exponentials of the scores less their maximum. -/
def expo : FVec Ideal S1024x16 .f32 :=
  Host.exp (subf (scores x W) (broadcastInDim S1024x16 ![0, 1] bcast_S1024x1_S1024x16_0_1 (broadcastInDim S1024x1 ![0] bcast_S1024_S1024x1_0
    (Host.reduce FloatOps.maximumf (scores x W) (constant S_ .f32 0xFF800000#32) reducesTo_S1024x16_S1024_d1 h_S_))))
/-- The probabilities. -/
def probs : FVec Ideal S1024x16 .f32 :=
  Host.divf (expo x W) (broadcastInDim S1024x16 ![0, 1] bcast_S1024x1_S1024x16_0_1 (broadcastInDim S1024x1 ![0] bcast_S1024_S1024x1_0
    (Host.reduceAdd (expo x W) (constant S_ .f32 0x00000000#32) reducesTo_S1024x16_S1024_d1 h_S_)))
/-- The two columns of routing indices. -/
def col0 : IVec S1024 32 := shapeCast S1024 (extractStridedSlice S1024x1 ![0, 0] ix slices_S1024x2_S1024x1_0_0) shapeCasts_S1024x1_S1024
def col1 : IVec S1024 32 := shapeCast S1024 (extractStridedSlice S1024x1 ![0, 1] ix slices_S1024x2_S1024x1_0_1) shapeCasts_S1024x1_S1024
/-- A list of indices with the negative ones counted from the end. -/
def wrap (n : BitVec 32) (v : IVec S1024 32) : IVec S1024 32 :=
  select (cmpi .slt v (broadcastInDim S1024 ![] bcast_S_S1024 (constantI S_ 32 0#32)))
    (addi v (broadcastInDim S1024 ![] bcast_S_S1024 (constantI S_ 32 n))) v
/-- A list as one column. -/
def column (v : IVec S1024 32) : IVec S1024x1 32 := broadcastInDim S1024x1 ![0] bcast_S1024_S1024x1_0 v
/-- The probabilities of the experts listed. -/
def picked (v : IVec S1024 32) : FVec Ideal S1024 .f32 :=
  Host.gather gather_S1024x16_S1024x2_S1024_n_01_n_n_01_1_11 (probs x W)
    (fn_main_v30 (F := Ideal) (column (wrap 1024#32 (iotaInDim S1024 32 0))) (column (wrap 16#32 v)))
/-- The tokens times the experts listed. -/
def prods (v : IVec S1024 32) : FVec Ideal S1024x1024 .f32 :=
  Host.dotGeneral dot_S1024x512_S1024x512x1024_S1024x1024_1_1_n_2_0_0 none (extf .f32 x bitsLt_bf16_f32)
    (Host.gather gather_S16x512x1024_S1024x1_S1024x512x1024_12_0_n_n_0_1_15121024 (extf .f32 E bitsLt_bf16_f32) (column (wrap 16#32 v)))
/-- A list of weights along each row. -/
def rows (v : FVec Ideal S1024 .f32) : FVec Ideal S1024x1024 .f32 :=
  broadcastInDim S1024x1024 ![0, 1] bcast_S1024x1_S1024x1024_0_1 (broadcastInDim S1024x1 ![0] bcast_S1024_S1024x1_0 v)
/-- The result. -/
def out : FVec Ideal S1024x1024 .f32 :=
  addf (mulf (rows (Host.divf (picked x W (col0 ix)) (addf (picked x W (col0 ix)) (picked x W (col1 ix))))) (prods x E (col0 ix)))
    (mulf (rows (Host.divf (picked x W (col1 ix)) (addf (picked x W (col0 ix)) (picked x W (col1 ix))))) (prods x E (col1 ix)))

variable (r h : Fin 1024) (e e0 e1 : Fin 16)

theorem scores_at : scores x W (ix2 r e) = score x W r e := by pointwise [scores, score]
theorem expo_at : expo x W (ix2 r e) = Ideal.exp (score x W r e - top x W r) := by
  pointwise [expo]
  simp only [scores_at, top]
/-- The reference's probabilities are the softmax. -/
theorem probs_at : probs x W (ix2 r e) = prob x W r e := by
  pointwise [probs]
  simp only [expo_at, prob]
theorem col0_at : col0 ix (ix1 r) = ix (ix2 r 0) := by pointwise [col0]
theorem col1_at : col1 ix (ix1 r) = ix (ix2 r 1) := by pointwise [col1]

/-- An index in range is left alone. -/
theorem wrap_at (n : BitVec 32) (v : IVec S1024 32) (k : ℕ) (hk : k < 1024) (hv : v (ix1 r) = BitVec.ofNat 32 k) :
    wrap n v (ix1 r) = BitVec.ofNat 32 k := by
  pointwise [wrap]
  rw [hv]
  have hneg : (BitVec.ofNat 32 k).slt 0#32 = false := by
    have hb : (BitVec.ofNat 32 k).toInt = k := by
      rw [BitVec.toInt_ofNat']; norm_num [Int.bmod]; omega
    simp [BitVec.slt, hb]
  simp [IntOp.cmpi, hneg, Scalar.select]

theorem picked_at (v : IVec S1024 32) (hv : v (ix1 r) = BitVec.ofNat 32 e.val) : picked x W v (ix1 r) = prob x W r e := by
  unfold picked
  rw [gather_prob (e := e), probs_at]
  · pointwise [fn_main_v30, column]
    exact wrap_at r _ _ r.val r.isLt (by pointwise)
  · pointwise [fn_main_v30, column]
    exact wrap_at r _ _ e.val (by omega) hv

theorem prods_at (v : IVec S1024 32) (hv : v (ix1 r) = BitVec.ofNat 32 e.val) : prods x E v (ix2 r h) = prod x E r e h := by
  pointwise [prods, prod]
  refine Finset.sum_congr rfl fun k _ => ?_
  rw [gather_expert (e := e)]
  · pointwise
  · pointwise [column]
    exact wrap_at r _ _ e.val (by omega) hv

theorem out_at (h0 : ix (ix2 r 0) = BitVec.ofNat 32 e0.val) (h1 : ix (ix2 r 1) = BitVec.ofNat 32 e1.val) :
    out x W ix E (ix2 r h) = mixed x W E r h e0 e1 := by
  have k0 := (col0_at ix r).trans h0
  have k1 := (col1_at ix r).trans h1
  pointwise [out, rows]
  rw [picked_at x W r e0 _ k0, picked_at x W r e1 _ k1, prods_at x E r h e0 _ k0, prods_at x E r h e1 _ k1]
  rfl
end Named

set_option maxRecDepth 8192 in
/-- The reference's result is the array above, of the arguments. -/
theorem res_eq (m : (ℓ : Loc nD τ sig) → Buf (Elt Ideal) ℓ) (c : Dev nD) :
    res_main_v71 m c = out (m ((c.tc : Thread nD τ).loc main_arg0)) (m ((c.tc : Thread nD τ).loc main_arg1))
      (m ((c.tc : Thread nD τ).loc main_arg2)) (m ((c.tc : Thread nD τ).loc main_arg3)) := by
  unfold res_main_v71; rfl

end Cert.MoeRing.Ref

end
-- ==== Proof.Pre.lean ====
/-
# The precondition

What the precondition says of each argument's entries.
-/
module

public import proofs.«01_k».proof.Defs
public import Idealize.ShloMosaic.Lib.Pointwise

@[expose] public section

noncomputable section

namespace Cert.MoeRing

open Idealize.ShloMosaic
open Idealize.ShloMosaic.TcCoe
open Idealize.SL.Sem
open scoped BigOperators

/-- The shape relations the two printed preconditions state. -/
instance facts_kernelideal : Cert.Pre_finite_and_in_range_KernelIdeal.Facts where
  bitsLt_bf16_f32 := by decide
  bcast_S_S1024x512 := by decide
  bcast_S_S512x16 := by decide
  bcast_S_S1024x2 := by decide
instance facts_referenceideal : Cert.Pre_finite_and_in_range_ReferenceIdeal.Facts where
  bitsLt_bf16_f32 := by decide
  bcast_S_S1024x512 := by decide
  bcast_S_S512x16 := by decide
  bcast_S_S1024x2 := by decide

/-- A magnitude below the format's infinity is a real's. -/
theorem real_of_lt (v : EReal) (h : BitVec.ofBool (decide (max v (-v) < Ideal.ofBits .f32 0x7F800000#32)) = 1#1) : ∃ a : ℝ, v = (a : EReal) := by
  have htop : Ideal.ofBits .f32 0x7F800000#32 = ⊤ := by simp [Ideal.ofBits, Ideal.ieee]
  rw [htop] at h
  have hlt : max v (-v) < ⊤ := by
    by_contra hc
    rw [decide_eq_false hc] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A word between zero and fifteen is an expert's number. -/
theorem expert_of_range (v : BitVec 32)
    (h : IntOp.andi (IntOp.cmpi CmpIPredicate.sge v 0#32) (IntOp.cmpi CmpIPredicate.slt v 16#32) = 1#1) :
    ∃ e : Fin 16, v = BitVec.ofNat 32 e.val := by
  have hge : (0#32).sle v = true := by
    by_contra hc
    rw [Bool.not_eq_true] at hc
    rw [IntOp.andi, IntOp.cmpi, IntOp.cmpi] at h
    rw [hc] at h
    revert h; generalize v.slt 16#32 = b; revert b; decide
  have hlt : v.slt 16#32 = true := by
    by_contra hc
    rw [Bool.not_eq_true] at hc
    rw [IntOp.andi, IntOp.cmpi, IntOp.cmpi] at h
    rw [hc] at h
    revert h; generalize (0#32).sle v = b; revert b; decide
  have h0 : 0 ≤ v.toInt := by simpa [BitVec.sle] using hge
  have h1 : v.toInt < 16 := by simpa [BitVec.slt] using hlt
  have hn : v.toNat < 16 := by
    rw [BitVec.toInt_eq_toNat_cond] at h0 h1
    have := v.isLt
    split at h0 <;> omega
  exact ⟨⟨v.toNat, hn⟩, by simp⟩

section Read
variable (x : FVec Ideal ⟨2, ![1024, 512]⟩ .bf16) (W : FVec Ideal ⟨2, ![512, 16]⟩ .bf16) (ix : IVec ⟨2, ![1024, 2]⟩ 32) (E : FVec Ideal ⟨3, ![4, 512, 1024]⟩ .bf16)

/-- The precondition says that the tokens are finite, … -/
theorem pre_x (h : (Cert.Pre_finite_and_in_range_KernelIdeal.fn (F := Ideal) x W ix E).1 = fun _ => 1#1) (i) : ∃ a : ℝ, x i = (a : EReal) := by
  refine real_of_lt _ (Eq.trans ?_ (congrFun h i))
  rw [eq_ix2 i]
  symm
  pointwise [Cert.Pre_finite_and_in_range_KernelIdeal.fn]
  rfl
/-- … that the router's weights are, … -/
theorem pre_W (h : (Cert.Pre_finite_and_in_range_KernelIdeal.fn (F := Ideal) x W ix E).2.1 = fun _ => 1#1) (i) : ∃ a : ℝ, W i = (a : EReal) := by
  refine real_of_lt _ (Eq.trans ?_ (congrFun h i))
  rw [eq_ix2 i]
  symm
  pointwise [Cert.Pre_finite_and_in_range_KernelIdeal.fn]
  rfl
/-- … and that every routing index names an expert. -/
theorem pre_ix (h : (Cert.Pre_finite_and_in_range_KernelIdeal.fn (F := Ideal) x W ix E).2.2 = fun _ => 1#1) (r : Fin 1024) (k : Fin 2) :
    ∃ e : Fin 16, ix (ix2 r k) = BitVec.ofNat 32 e.val := by
  refine expert_of_range _ (Eq.trans ?_ (congrFun h (ix2 r k)))
  symm
  pointwise [Cert.Pre_finite_and_in_range_KernelIdeal.fn]
end Read

end Cert.MoeRing

end
-- ==== Proof.Algebraic.lean ====
/-
# The kernel computes what the reference computes

Of memories that hold the same whole arrays, and satisfy the precondition: each device's result is its 256 rows of the
reference's.
-/
module

public import proofs.«01_k».proof.Proof.Frames
public import proofs.«01_k».proof.Proof.Arrays
public import proofs.«01_k».proof.Proof.Whole
public import proofs.«01_k».proof.Proof.RefValue
public import proofs.«01_k».proof.Proof.Pre
public import Idealize.ShloMosaic.Lib.LayoutAt

@[expose] public section

noncomputable section

namespace Cert.MoeRing

open Cert.KernelIdeal Cert.KernelIdeal.Gen
open Idealize.ShloMosaic
open Idealize.ShloMosaic.TcCoe
open Idealize.SL.Sem
open scoped BigOperators

/-- A device's expert `k` is, of the sixteen, the one of its number. -/
theorem block_expert (c : Dev nD) (E : FVec Ideal ⟨3, ![16, 512, 1024]⟩ .bf16) (k : Fin 4) (j : Fin 512) (h : Fin 1024) :
    (Layout.block ⟨3, ![4, 512, 1024]⟩ ⟨3, ![16, 512, 1024]⟩ 0 4 c E) (ix3 k j h) = E (ix3 (expert c k) j h) := by
  have he : (expert c k).val = 4 * c.val + k.val := rfl
  refine congrArg E ?_
  shard_ext

/-- A device's row `p` of the result is, of the thousand and twenty-four, the one of its number. -/
theorem block_row (c : Dev nD) (v : FVec Ideal ⟨2, ![1024, 1024]⟩ .f32) (p : Fin 256) (h : Fin 1024) :
    (Layout.block ⟨2, ![256, 1024]⟩ ⟨2, ![1024, 1024]⟩ 0 4 c v) (ix2 p h) = v (ix2 (row c p) h) := by
  have he : (row c p).val = 256 * c.val + p.val := rfl
  refine congrArg v ?_
  shard_ext

/-- What the last stores leave on device `c` is its block of the reference's result. -/
theorem out_block (m : (ℓ : Loc nD τ sig) → Buf (Elt Ideal) ℓ) (x : FVec Ideal ⟨2, ![1024, 512]⟩ .bf16)
    (W : FVec Ideal ⟨2, ![512, 16]⟩ .bf16) (ix : IVec ⟨2, ![1024, 2]⟩ 32) (E : FVec Ideal ⟨3, ![16, 512, 1024]⟩ .bf16)
    (hx : ∀ d, xA m d = x) (hW : ∀ d, rwA m d = W) (hix : ∀ d, ixA m d = ix)
    (hE : ∀ d, ewA m d = Layout.block ⟨3, ![4, 512, 1024]⟩ ⟨3, ![16, 512, 1024]⟩ 0 4 d E)
    (fx : ∀ i, ∃ a : ℝ, x i = (a : EReal)) (fW : ∀ i, ∃ a : ℝ, W i = (a : EReal))
    (hr : ∀ r k, ∃ e : Fin 16, ix (ix2 r k) = BitVec.ofNat 32 e.val) (c : Dev nD) :
    outAt m c = Layout.block ⟨2, ![256, 1024]⟩ ⟨2, ![1024, 1024]⟩ 0 4 c (Ref.out x W ix E) := by
  have hat : ∀ (p : Fin 256) (h : Fin 1024), outAt m c (ix2 p h) = Ref.out x W ix E (ix2 (row c p) h) := fun p h => by
    obtain ⟨e0, h0⟩ := hr (row c p) 0
    obtain ⟨e1, h1⟩ := hr (row c p) 1
    rw [Ref.out_at x W ix E _ _ e0 e1 h0 h1]
    exact (outAt_at m c p h).trans
      (parts_mixed m x W ix E hx hW hix (fun d k j h => by rw [hE]; exact block_expert d E k j h) fx fW _ _ e0 e1 h0 h1)
  funext i
  rw [eq_ix2 i]
  exact (hat (i 0) (i 1)).trans (block_row c _ (i 0) (i 1)).symm

/-- Both programs run, from memories that agree, and the kernel's results are the blocks of the reference's. -/
theorem computes : Cert.algebraic_KernelIdeal_ReferenceIdeal_pre_finite_and_in_range_KernelIdeal
    (hKernelIdeal := Cert.KernelIdeal.Gen.facts) (hReferenceIdeal := Cert.ReferenceIdeal.Gen.facts)
    (hPre_finite_and_in_range_KernelIdeal := facts_kernelideal) := by
  intro m ρ m' ρ' hp ha
  obtain ⟨p0, p1, p2⟩ := hp 0
  obtain ⟨a0, a1, a2, _⟩ := ha 0
  rw [a0, a1, a2] at p0 p1 p2
  have hb := out_block m _ _ _ _ (fun d => (xA_eq m d).trans (ha d).1) (fun d => (rwA_eq m d).trans (ha d).2.1)
    (fun d => (ixA_eq m d).trans (ha d).2.2.1) (fun d => (ewA_eq m d).trans (ha d).2.2.2)
    (pre_x _ _ _ _ p0) (pre_W _ _ _ _ p1) (pre_ix _ _ _ _ p2)
  exact ⟨_, (θ_run Cert.KernelIdeal.defs _ _).mono
      (fun r h c => ⟨((h.1 c (4 : Fin 5)).trans (result_eq m c ρ)).trans (hb c), args_kept m h.1 c⟩) (run_main (F := Ideal) m ρ),
    (θ_run Cert.ReferenceIdeal.defs _ _).mono
      (fun r h => ⟨(h 0).1.trans (Ref.res_eq m' 0), (h 0).2⟩) (Cert.ReferenceIdeal.Value.run (F := Ideal) m' ρ')⟩

end Cert.MoeRing

end
-- ==== Proof.lean ====
/-
# The proof of `Cert.Claim`

The kernel and the reference run without fault, keep their arguments and leave every semaphore counter at zero; over the
extended reals each device's result is its block of the reference's.
-/
module

public import proofs.«01_k».proof.Proof.Algebraic
public import Idealize.ShloMosaic.Adequacy
public import Idealize.ShloMosaic.Init

@[expose] public section

noncomputable section

namespace Cert.Proof

open Cert.MoeRing

/-- Everything that the certificate claims. -/
theorem claim : Cert.Claim :=
  ⟨Cert.Kernel.Gen.facts, Cert.KernelIdeal.Gen.facts, Cert.ReferenceIdeal.Gen.facts, facts_kernelideal, facts_referenceideal,
    frame_bits, frame_ideal, fun m ρ _ => frame_ideal m ρ trivial, frame_reference, fun m ρ _ => frame_reference m ρ trivial,
    trivial, computes⟩

end Cert.Proof

end
